-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S256x4096 : Shape := ⟨2, ![256, 4096]⟩
abbrev S3x256x8192 : Shape := ⟨3, ![3, 256, 8192]⟩
abbrev S3 : Shape := ⟨1, ![3]⟩
abbrev S16 : Shape := ⟨1, ![16]⟩
abbrev S_ : Shape := ⟨0, ![]⟩
abbrev S1x256x8192 : Shape := ⟨3, ![1, 256, 8192]⟩
abbrev S256x256 : Shape := ⟨2, ![256, 256]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .f32⟩
  | .local _ .vmem, ⟨2, _⟩ => ⟨S4096x256, .fp8e4m3⟩
  | .local _ .vmem, ⟨3, _⟩ => ⟨S256x4096, .fp8e4m3⟩
  | .local _ .vmem, ⟨4, _⟩ => ⟨S3x256x8192, .fp8e4m3⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.addi v2 c0_i32
  let c16_i32_0 : BitVec 32 := 16#32
  let c0_i32_1 : BitVec 32 := 0#32
  let v4 : BitVec 1 := Scalar.cmpi .eq c16_i32_0 c0_i32_1
  let c1_i32_2 : BitVec 32 := 1#32
  let v5 : BitVec 32 := Scalar.select v4 c1_i32_2 c16_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let c0_i32_10 : BitVec 32 := 0#32
  ![v14.toNat, 0]
def k0_dev1 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_39 : BitVec 32 := 1#32
  let v60 : BitVec 32 := Scalar.addi v2 c1_i32_39
  let c16_i32_40 : BitVec 32 := 16#32
  let c0_i32_41 : BitVec 32 := 0#32
  let v61 : BitVec 1 := Scalar.cmpi .eq c16_i32_40 c0_i32_41
  let c1_i32_42 : BitVec 32 := 1#32
  let v62 : BitVec 32 := Scalar.select v61 c1_i32_42 c16_i32_40
  let v63 : BitVec 32 := Scalar.remsi v60 v62
  let c0_i32_44 : BitVec 32 := 0#32
  let v65 : BitVec 1 := Scalar.cmpi .slt v63 c0_i32_44
  let c0_i32_45 : BitVec 32 := 0#32
  let v66 : BitVec 1 := Scalar.cmpi .slt v62 c0_i32_45
  let v67 : BitVec 1 := Scalar.xori v65 v66
  let c0_i32_43 : BitVec 32 := 0#32
  let v64 : BitVec 1 := Scalar.cmpi .ne v63 c0_i32_43
  let v68 : BitVec 1 := Scalar.andi v67 v64
  let v69 : BitVec 32 := Scalar.addi v63 v62
  let v70 : BitVec 32 := Scalar.select v68 v69 v63
  let c1_i32_47 : BitVec 32 := 1#32
  let v71 : BitVec 32 := Scalar.muli v70 c1_i32_47
  let v72 : BitVec 32 := Scalar.addi c0_i32_48 v71
  v72.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_49 : BitVec 32 := 2#32
  let v73 : BitVec 32 := Scalar.addi v2 c2_i32_49
  let c16_i32_50 : BitVec 32 := 16#32
  let c0_i32_51 : BitVec 32 := 0#32
  let v74 : BitVec 1 := Scalar.cmpi .eq c16_i32_50 c0_i32_51
  let c1_i32_52 : BitVec 32 := 1#32
  let v75 : BitVec 32 := Scalar.select v74 c1_i32_52 c16_i32_50
  let v76 : BitVec 32 := Scalar.remsi v73 v75
  let c0_i32_54 : BitVec 32 := 0#32
  let v78 : BitVec 1 := Scalar.cmpi .slt v76 c0_i32_54
  let c0_i32_55 : BitVec 32 := 0#32
  let v79 : BitVec 1 := Scalar.cmpi .slt v75 c0_i32_55
  let v80 : BitVec 1 := Scalar.xori v78 v79
  let c0_i32_53 : BitVec 32 := 0#32
  let v77 : BitVec 1 := Scalar.cmpi .ne v76 c0_i32_53
  let v81 : BitVec 1 := Scalar.andi v80 v77
  let v82 : BitVec 32 := Scalar.addi v76 v75
  let v83 : BitVec 32 := Scalar.select v81 v82 v76
  let c1_i32_57 : BitVec 32 := 1#32
  let v84 : BitVec 32 := Scalar.muli v83 c1_i32_57
  let v85 : BitVec 32 := Scalar.addi c0_i32_58 v84
  v85.toNat
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v86 : BitVec 32 := Scalar.addi v2 c3_i32
  let c16_i32_59 : BitVec 32 := 16#32
  let c0_i32_60 : BitVec 32 := 0#32
  let v87 : BitVec 1 := Scalar.cmpi .eq c16_i32_59 c0_i32_60
  let c1_i32_61 : BitVec 32 := 1#32
  let v88 : BitVec 32 := Scalar.select v87 c1_i32_61 c16_i32_59
  let v89 : BitVec 32 := Scalar.remsi v86 v88
  let c0_i32_63 : BitVec 32 := 0#32
  let v91 : BitVec 1 := Scalar.cmpi .slt v89 c0_i32_63
  let c0_i32_64 : BitVec 32 := 0#32
  let v92 : BitVec 1 := Scalar.cmpi .slt v88 c0_i32_64
  let v93 : BitVec 1 := Scalar.xori v91 v92
  let c0_i32_62 : BitVec 32 := 0#32
  let v90 : BitVec 1 := Scalar.cmpi .ne v89 c0_i32_62
  let v94 : BitVec 1 := Scalar.andi v93 v90
  let v95 : BitVec 32 := Scalar.addi v89 v88
  let v96 : BitVec 32 := Scalar.select v94 v95 v89
  let c1_i32_66 : BitVec 32 := 1#32
  let v97 : BitVec 32 := Scalar.muli v96 c1_i32_66
  let v98 : BitVec 32 := Scalar.addi c0_i32_67 v97
  v98.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v99 : BitVec 32 := Scalar.addi v2 c4_i32
  let c16_i32_68 : BitVec 32 := 16#32
  let c0_i32_69 : BitVec 32 := 0#32
  let v100 : BitVec 1 := Scalar.cmpi .eq c16_i32_68 c0_i32_69
  let c1_i32_70 : BitVec 32 := 1#32
  let v101 : BitVec 32 := Scalar.select v100 c1_i32_70 c16_i32_68
  let v102 : BitVec 32 := Scalar.remsi v99 v101
  let c0_i32_72 : BitVec 32 := 0#32
  let v104 : BitVec 1 := Scalar.cmpi .slt v102 c0_i32_72
  let c0_i32_73 : BitVec 32 := 0#32
  let v105 : BitVec 1 := Scalar.cmpi .slt v101 c0_i32_73
  let v106 : BitVec 1 := Scalar.xori v104 v105
  let c0_i32_71 : BitVec 32 := 0#32
  let v103 : BitVec 1 := Scalar.cmpi .ne v102 c0_i32_71
  let v107 : BitVec 1 := Scalar.andi v106 v103
  let v108 : BitVec 32 := Scalar.addi v102 v101
  let v109 : BitVec 32 := Scalar.select v107 v108 v102
  let c1_i32_75 : BitVec 32 := 1#32
  let v110 : BitVec 32 := Scalar.muli v109 c1_i32_75
  let v111 : BitVec 32 := Scalar.addi c0_i32_76 v110
  v111.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v112 : BitVec 32 := Scalar.addi v2 c5_i32
  let c16_i32_77 : BitVec 32 := 16#32
  let c0_i32_78 : BitVec 32 := 0#32
  let v113 : BitVec 1 := Scalar.cmpi .eq c16_i32_77 c0_i32_78
  let c1_i32_79 : BitVec 32 := 1#32
  let v114 : BitVec 32 := Scalar.select v113 c1_i32_79 c16_i32_77
  let v115 : BitVec 32 := Scalar.remsi v112 v114
  let c0_i32_81 : BitVec 32 := 0#32
  let v117 : BitVec 1 := Scalar.cmpi .slt v115 c0_i32_81
  let c0_i32_82 : BitVec 32 := 0#32
  let v118 : BitVec 1 := Scalar.cmpi .slt v114 c0_i32_82
  let v119 : BitVec 1 := Scalar.xori v117 v118
  let c0_i32_80 : BitVec 32 := 0#32
  let v116 : BitVec 1 := Scalar.cmpi .ne v115 c0_i32_80
  let v120 : BitVec 1 := Scalar.andi v119 v116
  let v121 : BitVec 32 := Scalar.addi v115 v114
  let v122 : BitVec 32 := Scalar.select v120 v121 v115
  let c1_i32_84 : BitVec 32 := 1#32
  let v123 : BitVec 32 := Scalar.muli v122 c1_i32_84
  let v124 : BitVec 32 := Scalar.addi c0_i32_85 v123
  v124.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v125 : BitVec 32 := Scalar.addi v2 c6_i32
  let c16_i32_86 : BitVec 32 := 16#32
  let c0_i32_87 : BitVec 32 := 0#32
  let v126 : BitVec 1 := Scalar.cmpi .eq c16_i32_86 c0_i32_87
  let c1_i32_88 : BitVec 32 := 1#32
  let v127 : BitVec 32 := Scalar.select v126 c1_i32_88 c16_i32_86
  let v128 : BitVec 32 := Scalar.remsi v125 v127
  let c0_i32_90 : BitVec 32 := 0#32
  let v130 : BitVec 1 := Scalar.cmpi .slt v128 c0_i32_90
  let c0_i32_91 : BitVec 32 := 0#32
  let v131 : BitVec 1 := Scalar.cmpi .slt v127 c0_i32_91
  let v132 : BitVec 1 := Scalar.xori v130 v131
  let c0_i32_89 : BitVec 32 := 0#32
  let v129 : BitVec 1 := Scalar.cmpi .ne v128 c0_i32_89
  let v133 : BitVec 1 := Scalar.andi v132 v129
  let v134 : BitVec 32 := Scalar.addi v128 v127
  let v135 : BitVec 32 := Scalar.select v133 v134 v128
  let c1_i32_93 : BitVec 32 := 1#32
  let v136 : BitVec 32 := Scalar.muli v135 c1_i32_93
  let v137 : BitVec 32 := Scalar.addi c0_i32_94 v136
  v137.toNat
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v138 : BitVec 32 := Scalar.addi v2 c7_i32
  let c16_i32_95 : BitVec 32 := 16#32
  let c0_i32_96 : BitVec 32 := 0#32
  let v139 : BitVec 1 := Scalar.cmpi .eq c16_i32_95 c0_i32_96
  let c1_i32_97 : BitVec 32 := 1#32
  let v140 : BitVec 32 := Scalar.select v139 c1_i32_97 c16_i32_95
  let v141 : BitVec 32 := Scalar.remsi v138 v140
  let c0_i32_99 : BitVec 32 := 0#32
  let v143 : BitVec 1 := Scalar.cmpi .slt v141 c0_i32_99
  let c0_i32_100 : BitVec 32 := 0#32
  let v144 : BitVec 1 := Scalar.cmpi .slt v140 c0_i32_100
  let v145 : BitVec 1 := Scalar.xori v143 v144
  let c0_i32_98 : BitVec 32 := 0#32
  let v142 : BitVec 1 := Scalar.cmpi .ne v141 c0_i32_98
  let v146 : BitVec 1 := Scalar.andi v145 v142
  let v147 : BitVec 32 := Scalar.addi v141 v140
  let v148 : BitVec 32 := Scalar.select v146 v147 v141
  let c1_i32_102 : BitVec 32 := 1#32
  let v149 : BitVec 32 := Scalar.muli v148 c1_i32_102
  let v150 : BitVec 32 := Scalar.addi c0_i32_103 v149
  v150.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v151 : BitVec 32 := Scalar.addi v2 c8_i32
  let c16_i32_104 : BitVec 32 := 16#32
  let c0_i32_105 : BitVec 32 := 0#32
  let v152 : BitVec 1 := Scalar.cmpi .eq c16_i32_104 c0_i32_105
  let c1_i32_106 : BitVec 32 := 1#32
  let v153 : BitVec 32 := Scalar.select v152 c1_i32_106 c16_i32_104
  let v154 : BitVec 32 := Scalar.remsi v151 v153
  let c0_i32_108 : BitVec 32 := 0#32
  let v156 : BitVec 1 := Scalar.cmpi .slt v154 c0_i32_108
  let c0_i32_109 : BitVec 32 := 0#32
  let v157 : BitVec 1 := Scalar.cmpi .slt v153 c0_i32_109
  let v158 : BitVec 1 := Scalar.xori v156 v157
  let c0_i32_107 : BitVec 32 := 0#32
  let v155 : BitVec 1 := Scalar.cmpi .ne v154 c0_i32_107
  let v159 : BitVec 1 := Scalar.andi v158 v155
  let v160 : BitVec 32 := Scalar.addi v154 v153
  let v161 : BitVec 32 := Scalar.select v159 v160 v154
  let c1_i32_111 : BitVec 32 := 1#32
  let v162 : BitVec 32 := Scalar.muli v161 c1_i32_111
  let v163 : BitVec 32 := Scalar.addi c0_i32_112 v162
  v163.toNat
def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v164 : BitVec 32 := Scalar.addi v2 c9_i32
  let c16_i32_113 : BitVec 32 := 16#32
  let c0_i32_114 : BitVec 32 := 0#32
  let v165 : BitVec 1 := Scalar.cmpi .eq c16_i32_113 c0_i32_114
  let c1_i32_115 : BitVec 32 := 1#32
  let v166 : BitVec 32 := Scalar.select v165 c1_i32_115 c16_i32_113
  let v167 : BitVec 32 := Scalar.remsi v164 v166
  let c0_i32_117 : BitVec 32 := 0#32
  let v169 : BitVec 1 := Scalar.cmpi .slt v167 c0_i32_117
  let c0_i32_118 : BitVec 32 := 0#32
  let v170 : BitVec 1 := Scalar.cmpi .slt v166 c0_i32_118
  let v171 : BitVec 1 := Scalar.xori v169 v170
  let c0_i32_116 : BitVec 32 := 0#32
  let v168 : BitVec 1 := Scalar.cmpi .ne v167 c0_i32_116
  let v172 : BitVec 1 := Scalar.andi v171 v168
  let v173 : BitVec 32 := Scalar.addi v167 v166
  let v174 : BitVec 32 := Scalar.select v172 v173 v167
  let c1_i32_120 : BitVec 32 := 1#32
  let v175 : BitVec 32 := Scalar.muli v174 c1_i32_120
  let v176 : BitVec 32 := Scalar.addi c0_i32_121 v175
  v176.toNat
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v177 : BitVec 32 := Scalar.addi v2 c10_i32
  let c16_i32_122 : BitVec 32 := 16#32
  let c0_i32_123 : BitVec 32 := 0#32
  let v178 : BitVec 1 := Scalar.cmpi .eq c16_i32_122 c0_i32_123
  let c1_i32_124 : BitVec 32 := 1#32
  let v179 : BitVec 32 := Scalar.select v178 c1_i32_124 c16_i32_122
  let v180 : BitVec 32 := Scalar.remsi v177 v179
  let c0_i32_126 : BitVec 32 := 0#32
  let v182 : BitVec 1 := Scalar.cmpi .slt v180 c0_i32_126
  let c0_i32_127 : BitVec 32 := 0#32
  let v183 : BitVec 1 := Scalar.cmpi .slt v179 c0_i32_127
  let v184 : BitVec 1 := Scalar.xori v182 v183
  let c0_i32_125 : BitVec 32 := 0#32
  let v181 : BitVec 1 := Scalar.cmpi .ne v180 c0_i32_125
  let v185 : BitVec 1 := Scalar.andi v184 v181
  let v186 : BitVec 32 := Scalar.addi v180 v179
  let v187 : BitVec 32 := Scalar.select v185 v186 v180
  let c1_i32_129 : BitVec 32 := 1#32
  let v188 : BitVec 32 := Scalar.muli v187 c1_i32_129
  let v189 : BitVec 32 := Scalar.addi c0_i32_130 v188
  v189.toNat
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v190 : BitVec 32 := Scalar.addi v2 c11_i32
  let c16_i32_131 : BitVec 32 := 16#32
  let c0_i32_132 : BitVec 32 := 0#32
  let v191 : BitVec 1 := Scalar.cmpi .eq c16_i32_131 c0_i32_132
  let c1_i32_133 : BitVec 32 := 1#32
  let v192 : BitVec 32 := Scalar.select v191 c1_i32_133 c16_i32_131
  let v193 : BitVec 32 := Scalar.remsi v190 v192
  let c0_i32_135 : BitVec 32 := 0#32
  let v195 : BitVec 1 := Scalar.cmpi .slt v193 c0_i32_135
  let c0_i32_136 : BitVec 32 := 0#32
  let v196 : BitVec 1 := Scalar.cmpi .slt v192 c0_i32_136
  let v197 : BitVec 1 := Scalar.xori v195 v196
  let c0_i32_134 : BitVec 32 := 0#32
  let v194 : BitVec 1 := Scalar.cmpi .ne v193 c0_i32_134
  let v198 : BitVec 1 := Scalar.andi v197 v194
  let v199 : BitVec 32 := Scalar.addi v193 v192
  let v200 : BitVec 32 := Scalar.select v198 v199 v193
  let c1_i32_138 : BitVec 32 := 1#32
  let v201 : BitVec 32 := Scalar.muli v200 c1_i32_138
  let v202 : BitVec 32 := Scalar.addi c0_i32_139 v201
  v202.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v203 : BitVec 32 := Scalar.addi v2 c12_i32
  let c16_i32_140 : BitVec 32 := 16#32
  let c0_i32_141 : BitVec 32 := 0#32
  let v204 : BitVec 1 := Scalar.cmpi .eq c16_i32_140 c0_i32_141
  let c1_i32_142 : BitVec 32 := 1#32
  let v205 : BitVec 32 := Scalar.select v204 c1_i32_142 c16_i32_140
  let v206 : BitVec 32 := Scalar.remsi v203 v205
  let c0_i32_144 : BitVec 32 := 0#32
  let v208 : BitVec 1 := Scalar.cmpi .slt v206 c0_i32_144
  let c0_i32_145 : BitVec 32 := 0#32
  let v209 : BitVec 1 := Scalar.cmpi .slt v205 c0_i32_145
  let v210 : BitVec 1 := Scalar.xori v208 v209
  let c0_i32_143 : BitVec 32 := 0#32
  let v207 : BitVec 1 := Scalar.cmpi .ne v206 c0_i32_143
  let v211 : BitVec 1 := Scalar.andi v210 v207
  let v212 : BitVec 32 := Scalar.addi v206 v205
  let v213 : BitVec 32 := Scalar.select v211 v212 v206
  let c1_i32_147 : BitVec 32 := 1#32
  let v214 : BitVec 32 := Scalar.muli v213 c1_i32_147
  let v215 : BitVec 32 := Scalar.addi c0_i32_148 v214
  v215.toNat
def k0_dev13 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v216 : BitVec 32 := Scalar.addi v2 c13_i32
  let c16_i32_149 : BitVec 32 := 16#32
  let c0_i32_150 : BitVec 32 := 0#32
  let v217 : BitVec 1 := Scalar.cmpi .eq c16_i32_149 c0_i32_150
  let c1_i32_151 : BitVec 32 := 1#32
  let v218 : BitVec 32 := Scalar.select v217 c1_i32_151 c16_i32_149
  let v219 : BitVec 32 := Scalar.remsi v216 v218
  let c0_i32_153 : BitVec 32 := 0#32
  let v221 : BitVec 1 := Scalar.cmpi .slt v219 c0_i32_153
  let c0_i32_154 : BitVec 32 := 0#32
  let v222 : BitVec 1 := Scalar.cmpi .slt v218 c0_i32_154
  let v223 : BitVec 1 := Scalar.xori v221 v222
  let c0_i32_152 : BitVec 32 := 0#32
  let v220 : BitVec 1 := Scalar.cmpi .ne v219 c0_i32_152
  let v224 : BitVec 1 := Scalar.andi v223 v220
  let v225 : BitVec 32 := Scalar.addi v219 v218
  let v226 : BitVec 32 := Scalar.select v224 v225 v219
  let c1_i32_156 : BitVec 32 := 1#32
  let v227 : BitVec 32 := Scalar.muli v226 c1_i32_156
  let v228 : BitVec 32 := Scalar.addi c0_i32_157 v227
  v228.toNat
def k0_dev14 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v229 : BitVec 32 := Scalar.addi v2 c14_i32
  let c16_i32_158 : BitVec 32 := 16#32
  let c0_i32_159 : BitVec 32 := 0#32
  let v230 : BitVec 1 := Scalar.cmpi .eq c16_i32_158 c0_i32_159
  let c1_i32_160 : BitVec 32 := 1#32
  let v231 : BitVec 32 := Scalar.select v230 c1_i32_160 c16_i32_158
  let v232 : BitVec 32 := Scalar.remsi v229 v231
  let c0_i32_162 : BitVec 32 := 0#32
  let v234 : BitVec 1 := Scalar.cmpi .slt v232 c0_i32_162
  let c0_i32_163 : BitVec 32 := 0#32
  let v235 : BitVec 1 := Scalar.cmpi .slt v231 c0_i32_163
  let v236 : BitVec 1 := Scalar.xori v234 v235
  let c0_i32_161 : BitVec 32 := 0#32
  let v233 : BitVec 1 := Scalar.cmpi .ne v232 c0_i32_161
  let v237 : BitVec 1 := Scalar.andi v236 v233
  let v238 : BitVec 32 := Scalar.addi v232 v231
  let v239 : BitVec 32 := Scalar.select v237 v238 v232
  let c1_i32_165 : BitVec 32 := 1#32
  let v240 : BitVec 32 := Scalar.muli v239 c1_i32_165
  let v241 : BitVec 32 := Scalar.addi c0_i32_166 v240
  v241.toNat
def k0_dev15 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v242 : BitVec 32 := Scalar.addi v2 c15_i32
  let c16_i32_167 : BitVec 32 := 16#32
  let c0_i32_168 : BitVec 32 := 0#32
  let v243 : BitVec 1 := Scalar.cmpi .eq c16_i32_167 c0_i32_168
  let c1_i32_169 : BitVec 32 := 1#32
  let v244 : BitVec 32 := Scalar.select v243 c1_i32_169 c16_i32_167
  let v245 : BitVec 32 := Scalar.remsi v242 v244
  let c0_i32_171 : BitVec 32 := 0#32
  let v247 : BitVec 1 := Scalar.cmpi .slt v245 c0_i32_171
  let c0_i32_172 : BitVec 32 := 0#32
  let v248 : BitVec 1 := Scalar.cmpi .slt v244 c0_i32_172
  let v249 : BitVec 1 := Scalar.xori v247 v248
  let c0_i32_170 : BitVec 32 := 0#32
  let v246 : BitVec 1 := Scalar.cmpi .ne v245 c0_i32_170
  let v250 : BitVec 1 := Scalar.andi v249 v246
  let v251 : BitVec 32 := Scalar.addi v245 v244
  let v252 : BitVec 32 := Scalar.select v250 v251 v245
  let c1_i32_174 : BitVec 32 := 1#32
  let v253 : BitVec 32 := Scalar.muli v252 c1_i32_174
  let v254 : BitVec 32 := Scalar.addi c0_i32_175 v253
  v254.toNat
def k0_off2 (d0 : Dev nD) (c1_i32_177 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v255 : BitVec 32 := Scalar.addi v2 c1_i32_177
  let c16_i32_178 : BitVec 32 := 16#32
  let c0_i32_179 : BitVec 32 := 0#32
  let v256 : BitVec 1 := Scalar.cmpi .eq c16_i32_178 c0_i32_179
  let c1_i32_180 : BitVec 32 := 1#32
  let v257 : BitVec 32 := Scalar.select v256 c1_i32_180 c16_i32_178
  let v258 : BitVec 32 := Scalar.remsi v255 v257
  let c0_i32_182 : BitVec 32 := 0#32
  let v260 : BitVec 1 := Scalar.cmpi .slt v258 c0_i32_182
  let c0_i32_183 : BitVec 32 := 0#32
  let v261 : BitVec 1 := Scalar.cmpi .slt v257 c0_i32_183
  let v262 : BitVec 1 := Scalar.xori v260 v261
  let c0_i32_181 : BitVec 32 := 0#32
  let v259 : BitVec 1 := Scalar.cmpi .ne v258 c0_i32_181
  let v263 : BitVec 1 := Scalar.andi v262 v259
  let v264 : BitVec 32 := Scalar.addi v258 v257
  let v265 : BitVec 32 := Scalar.select v263 v264 v258
  ![v265.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_185 : BitVec 32 := 256#32
  let v267 : BitVec 32 := Scalar.muli v2 c256_i32_185
  ![0, v267.toNat]
def k0_off5 (d0 : Dev nD) (c1_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v255 : BitVec 32 := Scalar.addi v2 c1_i32_177
  let c16_i32_178 : BitVec 32 := 16#32
  let c0_i32_179 : BitVec 32 := 0#32
  let v256 : BitVec 1 := Scalar.cmpi .eq c16_i32_178 c0_i32_179
  let c1_i32_180 : BitVec 32 := 1#32
  let v257 : BitVec 32 := Scalar.select v256 c1_i32_180 c16_i32_178
  let v258 : BitVec 32 := Scalar.remsi v255 v257
  let c0_i32_182 : BitVec 32 := 0#32
  let v260 : BitVec 1 := Scalar.cmpi .slt v258 c0_i32_182
  let c0_i32_183 : BitVec 32 := 0#32
  let v261 : BitVec 1 := Scalar.cmpi .slt v257 c0_i32_183
  let v262 : BitVec 1 := Scalar.xori v260 v261
  let c0_i32_181 : BitVec 32 := 0#32
  let v259 : BitVec 1 := Scalar.cmpi .ne v258 c0_i32_181
  let v263 : BitVec 1 := Scalar.andi v262 v259
  let v264 : BitVec 32 := Scalar.addi v258 v257
  let v265 : BitVec 32 := Scalar.select v263 v264 v258
  let c256_i32_184 : BitVec 32 := 256#32
  let v266 : BitVec 32 := Scalar.muli v265 c256_i32_184
  let c0_i32_189 : BitVec 32 := 0#32
  ![v266.toNat, 0]
def k0_dev16 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_177 : BitVec 32 := 1#32
  let v255 : BitVec 32 := Scalar.addi v2 c1_i32_177
  let c16_i32_178 : BitVec 32 := 16#32
  let c0_i32_179 : BitVec 32 := 0#32
  let v256 : BitVec 1 := Scalar.cmpi .eq c16_i32_178 c0_i32_179
  let c1_i32_180 : BitVec 32 := 1#32
  let v257 : BitVec 32 := Scalar.select v256 c1_i32_180 c16_i32_178
  let v258 : BitVec 32 := Scalar.remsi v255 v257
  let c0_i32_182 : BitVec 32 := 0#32
  let v260 : BitVec 1 := Scalar.cmpi .slt v258 c0_i32_182
  let c0_i32_183 : BitVec 32 := 0#32
  let v261 : BitVec 1 := Scalar.cmpi .slt v257 c0_i32_183
  let v262 : BitVec 1 := Scalar.xori v260 v261
  let c0_i32_181 : BitVec 32 := 0#32
  let v259 : BitVec 1 := Scalar.cmpi .ne v258 c0_i32_181
  let v263 : BitVec 1 := Scalar.andi v262 v259
  let v264 : BitVec 32 := Scalar.addi v258 v257
  let v265 : BitVec 32 := Scalar.select v263 v264 v258
  let c1_i32_186 : BitVec 32 := 1#32
  let v268 : BitVec 32 := Scalar.muli v265 c1_i32_186
  let v269 : BitVec 32 := Scalar.addi c0_i32_187 v268
  v269.toNat
def k0_dev17 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v276 : BitVec 32 := Scalar.addi v2 c2_i32_190
  let c16_i32_191 : BitVec 32 := 16#32
  let c0_i32_192 : BitVec 32 := 0#32
  let v277 : BitVec 1 := Scalar.cmpi .eq c16_i32_191 c0_i32_192
  let c1_i32_193 : BitVec 32 := 1#32
  let v278 : BitVec 32 := Scalar.select v277 c1_i32_193 c16_i32_191
  let v279 : BitVec 32 := Scalar.remsi v276 v278
  let c0_i32_195 : BitVec 32 := 0#32
  let v281 : BitVec 1 := Scalar.cmpi .slt v279 c0_i32_195
  let c0_i32_196 : BitVec 32 := 0#32
  let v282 : BitVec 1 := Scalar.cmpi .slt v278 c0_i32_196
  let v283 : BitVec 1 := Scalar.xori v281 v282
  let c0_i32_194 : BitVec 32 := 0#32
  let v280 : BitVec 1 := Scalar.cmpi .ne v279 c0_i32_194
  let v284 : BitVec 1 := Scalar.andi v283 v280
  let v285 : BitVec 32 := Scalar.addi v279 v278
  let v286 : BitVec 32 := Scalar.select v284 v285 v279
  let c1_i32_199 : BitVec 32 := 1#32
  let v289 : BitVec 32 := Scalar.muli v286 c1_i32_199
  let v290 : BitVec 32 := Scalar.addi c0_i32_200 v289
  v290.toNat
def k0_dev18 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_203 : BitVec 32 := 3#32
  let v297 : BitVec 32 := Scalar.addi v2 c3_i32_203
  let c16_i32_204 : BitVec 32 := 16#32
  let c0_i32_205 : BitVec 32 := 0#32
  let v298 : BitVec 1 := Scalar.cmpi .eq c16_i32_204 c0_i32_205
  let c1_i32_206 : BitVec 32 := 1#32
  let v299 : BitVec 32 := Scalar.select v298 c1_i32_206 c16_i32_204
  let v300 : BitVec 32 := Scalar.remsi v297 v299
  let c0_i32_208 : BitVec 32 := 0#32
  let v302 : BitVec 1 := Scalar.cmpi .slt v300 c0_i32_208
  let c0_i32_209 : BitVec 32 := 0#32
  let v303 : BitVec 1 := Scalar.cmpi .slt v299 c0_i32_209
  let v304 : BitVec 1 := Scalar.xori v302 v303
  let c0_i32_207 : BitVec 32 := 0#32
  let v301 : BitVec 1 := Scalar.cmpi .ne v300 c0_i32_207
  let v305 : BitVec 1 := Scalar.andi v304 v301
  let v306 : BitVec 32 := Scalar.addi v300 v299
  let v307 : BitVec 32 := Scalar.select v305 v306 v300
  let c1_i32_212 : BitVec 32 := 1#32
  let v310 : BitVec 32 := Scalar.muli v307 c1_i32_212
  let v311 : BitVec 32 := Scalar.addi c0_i32_213 v310
  v311.toNat
def k0_dev19 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_216 : BitVec 32 := 4#32
  let v318 : BitVec 32 := Scalar.addi v2 c4_i32_216
  let c16_i32_217 : BitVec 32 := 16#32
  let c0_i32_218 : BitVec 32 := 0#32
  let v319 : BitVec 1 := Scalar.cmpi .eq c16_i32_217 c0_i32_218
  let c1_i32_219 : BitVec 32 := 1#32
  let v320 : BitVec 32 := Scalar.select v319 c1_i32_219 c16_i32_217
  let v321 : BitVec 32 := Scalar.remsi v318 v320
  let c0_i32_221 : BitVec 32 := 0#32
  let v323 : BitVec 1 := Scalar.cmpi .slt v321 c0_i32_221
  let c0_i32_222 : BitVec 32 := 0#32
  let v324 : BitVec 1 := Scalar.cmpi .slt v320 c0_i32_222
  let v325 : BitVec 1 := Scalar.xori v323 v324
  let c0_i32_220 : BitVec 32 := 0#32
  let v322 : BitVec 1 := Scalar.cmpi .ne v321 c0_i32_220
  let v326 : BitVec 1 := Scalar.andi v325 v322
  let v327 : BitVec 32 := Scalar.addi v321 v320
  let v328 : BitVec 32 := Scalar.select v326 v327 v321
  let c1_i32_225 : BitVec 32 := 1#32
  let v331 : BitVec 32 := Scalar.muli v328 c1_i32_225
  let v332 : BitVec 32 := Scalar.addi c0_i32_226 v331
  v332.toNat
def k0_dev20 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_229 : BitVec 32 := 5#32
  let v339 : BitVec 32 := Scalar.addi v2 c5_i32_229
  let c16_i32_230 : BitVec 32 := 16#32
  let c0_i32_231 : BitVec 32 := 0#32
  let v340 : BitVec 1 := Scalar.cmpi .eq c16_i32_230 c0_i32_231
  let c1_i32_232 : BitVec 32 := 1#32
  let v341 : BitVec 32 := Scalar.select v340 c1_i32_232 c16_i32_230
  let v342 : BitVec 32 := Scalar.remsi v339 v341
  let c0_i32_234 : BitVec 32 := 0#32
  let v344 : BitVec 1 := Scalar.cmpi .slt v342 c0_i32_234
  let c0_i32_235 : BitVec 32 := 0#32
  let v345 : BitVec 1 := Scalar.cmpi .slt v341 c0_i32_235
  let v346 : BitVec 1 := Scalar.xori v344 v345
  let c0_i32_233 : BitVec 32 := 0#32
  let v343 : BitVec 1 := Scalar.cmpi .ne v342 c0_i32_233
  let v347 : BitVec 1 := Scalar.andi v346 v343
  let v348 : BitVec 32 := Scalar.addi v342 v341
  let v349 : BitVec 32 := Scalar.select v347 v348 v342
  let c1_i32_238 : BitVec 32 := 1#32
  let v352 : BitVec 32 := Scalar.muli v349 c1_i32_238
  let v353 : BitVec 32 := Scalar.addi c0_i32_239 v352
  v353.toNat
def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_242 : BitVec 32 := 6#32
  let v360 : BitVec 32 := Scalar.addi v2 c6_i32_242
  let c16_i32_243 : BitVec 32 := 16#32
  let c0_i32_244 : BitVec 32 := 0#32
  let v361 : BitVec 1 := Scalar.cmpi .eq c16_i32_243 c0_i32_244
  let c1_i32_245 : BitVec 32 := 1#32
  let v362 : BitVec 32 := Scalar.select v361 c1_i32_245 c16_i32_243
  let v363 : BitVec 32 := Scalar.remsi v360 v362
  let c0_i32_247 : BitVec 32 := 0#32
  let v365 : BitVec 1 := Scalar.cmpi .slt v363 c0_i32_247
  let c0_i32_248 : BitVec 32 := 0#32
  let v366 : BitVec 1 := Scalar.cmpi .slt v362 c0_i32_248
  let v367 : BitVec 1 := Scalar.xori v365 v366
  let c0_i32_246 : BitVec 32 := 0#32
  let v364 : BitVec 1 := Scalar.cmpi .ne v363 c0_i32_246
  let v368 : BitVec 1 := Scalar.andi v367 v364
  let v369 : BitVec 32 := Scalar.addi v363 v362
  let v370 : BitVec 32 := Scalar.select v368 v369 v363
  let c1_i32_251 : BitVec 32 := 1#32
  let v373 : BitVec 32 := Scalar.muli v370 c1_i32_251
  let v374 : BitVec 32 := Scalar.addi c0_i32_252 v373
  v374.toNat
def k0_dev22 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_255 : BitVec 32 := 7#32
  let v381 : BitVec 32 := Scalar.addi v2 c7_i32_255
  let c16_i32_256 : BitVec 32 := 16#32
  let c0_i32_257 : BitVec 32 := 0#32
  let v382 : BitVec 1 := Scalar.cmpi .eq c16_i32_256 c0_i32_257
  let c1_i32_258 : BitVec 32 := 1#32
  let v383 : BitVec 32 := Scalar.select v382 c1_i32_258 c16_i32_256
  let v384 : BitVec 32 := Scalar.remsi v381 v383
  let c0_i32_260 : BitVec 32 := 0#32
  let v386 : BitVec 1 := Scalar.cmpi .slt v384 c0_i32_260
  let c0_i32_261 : BitVec 32 := 0#32
  let v387 : BitVec 1 := Scalar.cmpi .slt v383 c0_i32_261
  let v388 : BitVec 1 := Scalar.xori v386 v387
  let c0_i32_259 : BitVec 32 := 0#32
  let v385 : BitVec 1 := Scalar.cmpi .ne v384 c0_i32_259
  let v389 : BitVec 1 := Scalar.andi v388 v385
  let v390 : BitVec 32 := Scalar.addi v384 v383
  let v391 : BitVec 32 := Scalar.select v389 v390 v384
  let c1_i32_264 : BitVec 32 := 1#32
  let v394 : BitVec 32 := Scalar.muli v391 c1_i32_264
  let v395 : BitVec 32 := Scalar.addi c0_i32_265 v394
  v395.toNat
def k0_dev23 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_268 : BitVec 32 := 8#32
  let v402 : BitVec 32 := Scalar.addi v2 c8_i32_268
  let c16_i32_269 : BitVec 32 := 16#32
  let c0_i32_270 : BitVec 32 := 0#32
  let v403 : BitVec 1 := Scalar.cmpi .eq c16_i32_269 c0_i32_270
  let c1_i32_271 : BitVec 32 := 1#32
  let v404 : BitVec 32 := Scalar.select v403 c1_i32_271 c16_i32_269
  let v405 : BitVec 32 := Scalar.remsi v402 v404
  let c0_i32_273 : BitVec 32 := 0#32
  let v407 : BitVec 1 := Scalar.cmpi .slt v405 c0_i32_273
  let c0_i32_274 : BitVec 32 := 0#32
  let v408 : BitVec 1 := Scalar.cmpi .slt v404 c0_i32_274
  let v409 : BitVec 1 := Scalar.xori v407 v408
  let c0_i32_272 : BitVec 32 := 0#32
  let v406 : BitVec 1 := Scalar.cmpi .ne v405 c0_i32_272
  let v410 : BitVec 1 := Scalar.andi v409 v406
  let v411 : BitVec 32 := Scalar.addi v405 v404
  let v412 : BitVec 32 := Scalar.select v410 v411 v405
  let c1_i32_277 : BitVec 32 := 1#32
  let v415 : BitVec 32 := Scalar.muli v412 c1_i32_277
  let v416 : BitVec 32 := Scalar.addi c0_i32_278 v415
  v416.toNat
def k0_dev24 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_281 : BitVec 32 := 9#32
  let v423 : BitVec 32 := Scalar.addi v2 c9_i32_281
  let c16_i32_282 : BitVec 32 := 16#32
  let c0_i32_283 : BitVec 32 := 0#32
  let v424 : BitVec 1 := Scalar.cmpi .eq c16_i32_282 c0_i32_283
  let c1_i32_284 : BitVec 32 := 1#32
  let v425 : BitVec 32 := Scalar.select v424 c1_i32_284 c16_i32_282
  let v426 : BitVec 32 := Scalar.remsi v423 v425
  let c0_i32_286 : BitVec 32 := 0#32
  let v428 : BitVec 1 := Scalar.cmpi .slt v426 c0_i32_286
  let c0_i32_287 : BitVec 32 := 0#32
  let v429 : BitVec 1 := Scalar.cmpi .slt v425 c0_i32_287
  let v430 : BitVec 1 := Scalar.xori v428 v429
  let c0_i32_285 : BitVec 32 := 0#32
  let v427 : BitVec 1 := Scalar.cmpi .ne v426 c0_i32_285
  let v431 : BitVec 1 := Scalar.andi v430 v427
  let v432 : BitVec 32 := Scalar.addi v426 v425
  let v433 : BitVec 32 := Scalar.select v431 v432 v426
  let c1_i32_290 : BitVec 32 := 1#32
  let v436 : BitVec 32 := Scalar.muli v433 c1_i32_290
  let v437 : BitVec 32 := Scalar.addi c0_i32_291 v436
  v437.toNat
def k0_dev25 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_294 : BitVec 32 := 10#32
  let v444 : BitVec 32 := Scalar.addi v2 c10_i32_294
  let c16_i32_295 : BitVec 32 := 16#32
  let c0_i32_296 : BitVec 32 := 0#32
  let v445 : BitVec 1 := Scalar.cmpi .eq c16_i32_295 c0_i32_296
  let c1_i32_297 : BitVec 32 := 1#32
  let v446 : BitVec 32 := Scalar.select v445 c1_i32_297 c16_i32_295
  let v447 : BitVec 32 := Scalar.remsi v444 v446
  let c0_i32_299 : BitVec 32 := 0#32
  let v449 : BitVec 1 := Scalar.cmpi .slt v447 c0_i32_299
  let c0_i32_300 : BitVec 32 := 0#32
  let v450 : BitVec 1 := Scalar.cmpi .slt v446 c0_i32_300
  let v451 : BitVec 1 := Scalar.xori v449 v450
  let c0_i32_298 : BitVec 32 := 0#32
  let v448 : BitVec 1 := Scalar.cmpi .ne v447 c0_i32_298
  let v452 : BitVec 1 := Scalar.andi v451 v448
  let v453 : BitVec 32 := Scalar.addi v447 v446
  let v454 : BitVec 32 := Scalar.select v452 v453 v447
  let c1_i32_303 : BitVec 32 := 1#32
  let v457 : BitVec 32 := Scalar.muli v454 c1_i32_303
  let v458 : BitVec 32 := Scalar.addi c0_i32_304 v457
  v458.toNat
def k0_dev26 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_307 : BitVec 32 := 11#32
  let v465 : BitVec 32 := Scalar.addi v2 c11_i32_307
  let c16_i32_308 : BitVec 32 := 16#32
  let c0_i32_309 : BitVec 32 := 0#32
  let v466 : BitVec 1 := Scalar.cmpi .eq c16_i32_308 c0_i32_309
  let c1_i32_310 : BitVec 32 := 1#32
  let v467 : BitVec 32 := Scalar.select v466 c1_i32_310 c16_i32_308
  let v468 : BitVec 32 := Scalar.remsi v465 v467
  let c0_i32_312 : BitVec 32 := 0#32
  let v470 : BitVec 1 := Scalar.cmpi .slt v468 c0_i32_312
  let c0_i32_313 : BitVec 32 := 0#32
  let v471 : BitVec 1 := Scalar.cmpi .slt v467 c0_i32_313
  let v472 : BitVec 1 := Scalar.xori v470 v471
  let c0_i32_311 : BitVec 32 := 0#32
  let v469 : BitVec 1 := Scalar.cmpi .ne v468 c0_i32_311
  let v473 : BitVec 1 := Scalar.andi v472 v469
  let v474 : BitVec 32 := Scalar.addi v468 v467
  let v475 : BitVec 32 := Scalar.select v473 v474 v468
  let c1_i32_316 : BitVec 32 := 1#32
  let v478 : BitVec 32 := Scalar.muli v475 c1_i32_316
  let v479 : BitVec 32 := Scalar.addi c0_i32_317 v478
  v479.toNat
def k0_dev27 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_320 : BitVec 32 := 12#32
  let v486 : BitVec 32 := Scalar.addi v2 c12_i32_320
  let c16_i32_321 : BitVec 32 := 16#32
  let c0_i32_322 : BitVec 32 := 0#32
  let v487 : BitVec 1 := Scalar.cmpi .eq c16_i32_321 c0_i32_322
  let c1_i32_323 : BitVec 32 := 1#32
  let v488 : BitVec 32 := Scalar.select v487 c1_i32_323 c16_i32_321
  let v489 : BitVec 32 := Scalar.remsi v486 v488
  let c0_i32_325 : BitVec 32 := 0#32
  let v491 : BitVec 1 := Scalar.cmpi .slt v489 c0_i32_325
  let c0_i32_326 : BitVec 32 := 0#32
  let v492 : BitVec 1 := Scalar.cmpi .slt v488 c0_i32_326
  let v493 : BitVec 1 := Scalar.xori v491 v492
  let c0_i32_324 : BitVec 32 := 0#32
  let v490 : BitVec 1 := Scalar.cmpi .ne v489 c0_i32_324
  let v494 : BitVec 1 := Scalar.andi v493 v490
  let v495 : BitVec 32 := Scalar.addi v489 v488
  let v496 : BitVec 32 := Scalar.select v494 v495 v489
  let c1_i32_329 : BitVec 32 := 1#32
  let v499 : BitVec 32 := Scalar.muli v496 c1_i32_329
  let v500 : BitVec 32 := Scalar.addi c0_i32_330 v499
  v500.toNat
def k0_dev28 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_333 : BitVec 32 := 13#32
  let v507 : BitVec 32 := Scalar.addi v2 c13_i32_333
  let c16_i32_334 : BitVec 32 := 16#32
  let c0_i32_335 : BitVec 32 := 0#32
  let v508 : BitVec 1 := Scalar.cmpi .eq c16_i32_334 c0_i32_335
  let c1_i32_336 : BitVec 32 := 1#32
  let v509 : BitVec 32 := Scalar.select v508 c1_i32_336 c16_i32_334
  let v510 : BitVec 32 := Scalar.remsi v507 v509
  let c0_i32_338 : BitVec 32 := 0#32
  let v512 : BitVec 1 := Scalar.cmpi .slt v510 c0_i32_338
  let c0_i32_339 : BitVec 32 := 0#32
  let v513 : BitVec 1 := Scalar.cmpi .slt v509 c0_i32_339
  let v514 : BitVec 1 := Scalar.xori v512 v513
  let c0_i32_337 : BitVec 32 := 0#32
  let v511 : BitVec 1 := Scalar.cmpi .ne v510 c0_i32_337
  let v515 : BitVec 1 := Scalar.andi v514 v511
  let v516 : BitVec 32 := Scalar.addi v510 v509
  let v517 : BitVec 32 := Scalar.select v515 v516 v510
  let c1_i32_342 : BitVec 32 := 1#32
  let v520 : BitVec 32 := Scalar.muli v517 c1_i32_342
  let v521 : BitVec 32 := Scalar.addi c0_i32_343 v520
  v521.toNat
def k0_dev29 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_346 : BitVec 32 := 14#32
  let v528 : BitVec 32 := Scalar.addi v2 c14_i32_346
  let c16_i32_347 : BitVec 32 := 16#32
  let c0_i32_348 : BitVec 32 := 0#32
  let v529 : BitVec 1 := Scalar.cmpi .eq c16_i32_347 c0_i32_348
  let c1_i32_349 : BitVec 32 := 1#32
  let v530 : BitVec 32 := Scalar.select v529 c1_i32_349 c16_i32_347
  let v531 : BitVec 32 := Scalar.remsi v528 v530
  let c0_i32_351 : BitVec 32 := 0#32
  let v533 : BitVec 1 := Scalar.cmpi .slt v531 c0_i32_351
  let c0_i32_352 : BitVec 32 := 0#32
  let v534 : BitVec 1 := Scalar.cmpi .slt v530 c0_i32_352
  let v535 : BitVec 1 := Scalar.xori v533 v534
  let c0_i32_350 : BitVec 32 := 0#32
  let v532 : BitVec 1 := Scalar.cmpi .ne v531 c0_i32_350
  let v536 : BitVec 1 := Scalar.andi v535 v532
  let v537 : BitVec 32 := Scalar.addi v531 v530
  let v538 : BitVec 32 := Scalar.select v536 v537 v531
  let c1_i32_355 : BitVec 32 := 1#32
  let v541 : BitVec 32 := Scalar.muli v538 c1_i32_355
  let v542 : BitVec 32 := Scalar.addi c0_i32_356 v541
  v542.toNat
def k0_dev30 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_359 : BitVec 32 := 15#32
  let v549 : BitVec 32 := Scalar.addi v2 c15_i32_359
  let c16_i32_360 : BitVec 32 := 16#32
  let c0_i32_361 : BitVec 32 := 0#32
  let v550 : BitVec 1 := Scalar.cmpi .eq c16_i32_360 c0_i32_361
  let c1_i32_362 : BitVec 32 := 1#32
  let v551 : BitVec 32 := Scalar.select v550 c1_i32_362 c16_i32_360
  let v552 : BitVec 32 := Scalar.remsi v549 v551
  let c0_i32_364 : BitVec 32 := 0#32
  let v554 : BitVec 1 := Scalar.cmpi .slt v552 c0_i32_364
  let c0_i32_365 : BitVec 32 := 0#32
  let v555 : BitVec 1 := Scalar.cmpi .slt v551 c0_i32_365
  let v556 : BitVec 1 := Scalar.xori v554 v555
  let c0_i32_363 : BitVec 32 := 0#32
  let v553 : BitVec 1 := Scalar.cmpi .ne v552 c0_i32_363
  let v557 : BitVec 1 := Scalar.andi v556 v553
  let v558 : BitVec 32 := Scalar.addi v552 v551
  let v559 : BitVec 32 := Scalar.select v557 v558 v552
  let c1_i32_368 : BitVec 32 := 1#32
  let v562 : BitVec 32 := Scalar.muli v559 c1_i32_368
  let v563 : BitVec 32 := Scalar.addi c0_i32_369 v562
  v563.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_372 : BitVec 32 := 256#32
  let v570 : BitVec 32 := Scalar.muli v2 c256_i32_372
  let v571 : Index := Scalar.indexCast v570
  let c0_373 : Index := 0#32
  ![v571.toNat, 0]
def k0_off7 (d0 : Dev nD) : Fin 2 → Nat :=
  let c0_375 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_374 : BitVec 32 := 256#32
  let v573 : BitVec 32 := Scalar.muli v2 c256_i32_374
  let v574 : Index := Scalar.indexCast v573
  ![0, v574.toNat]
def k0_off8 (d0 : Dev nD) (c0_i32_376 : BitVec 32) : Fin 2 → Nat :=
  let c0_397 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v578 : BitVec 32 := Scalar.addi v2 c0_i32_376
  let c16_i32_377 : BitVec 32 := 16#32
  let c0_i32_378 : BitVec 32 := 0#32
  let v579 : BitVec 1 := Scalar.cmpi .eq c16_i32_377 c0_i32_378
  let c1_i32_379 : BitVec 32 := 1#32
  let v580 : BitVec 32 := Scalar.select v579 c1_i32_379 c16_i32_377
  let v581 : BitVec 32 := Scalar.remsi v578 v580
  let c0_i32_381 : BitVec 32 := 0#32
  let v583 : BitVec 1 := Scalar.cmpi .slt v581 c0_i32_381
  let c0_i32_382 : BitVec 32 := 0#32
  let v584 : BitVec 1 := Scalar.cmpi .slt v580 c0_i32_382
  let v585 : BitVec 1 := Scalar.xori v583 v584
  let c0_i32_380 : BitVec 32 := 0#32
  let v582 : BitVec 1 := Scalar.cmpi .ne v581 c0_i32_380
  let v586 : BitVec 1 := Scalar.andi v585 v582
  let v587 : BitVec 32 := Scalar.addi v581 v580
  let v588 : BitVec 32 := Scalar.select v586 v587 v581
  let c256_i32_396 : BitVec 32 := 256#32
  let v606 : BitVec 32 := Scalar.muli v588 c256_i32_396
  let v607 : Index := Scalar.indexCast v606
  ![0, v607.toNat]
def k0_off9 (d0 : Dev nD) (c1_i32_416 : BitVec 32) : Fin 2 → Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v630 : BitVec 32 := Scalar.addi v2 c1_i32_416
  let c16_i32_417 : BitVec 32 := 16#32
  let c0_i32_418 : BitVec 32 := 0#32
  let v631 : BitVec 1 := Scalar.cmpi .eq c16_i32_417 c0_i32_418
  let c1_i32_419 : BitVec 32 := 1#32
  let v632 : BitVec 32 := Scalar.select v631 c1_i32_419 c16_i32_417
  let v633 : BitVec 32 := Scalar.remsi v630 v632
  let c0_i32_421 : BitVec 32 := 0#32
  let v635 : BitVec 1 := Scalar.cmpi .slt v633 c0_i32_421
  let c0_i32_422 : BitVec 32 := 0#32
  let v636 : BitVec 1 := Scalar.cmpi .slt v632 c0_i32_422
  let v637 : BitVec 1 := Scalar.xori v635 v636
  let c0_i32_420 : BitVec 32 := 0#32
  let v634 : BitVec 1 := Scalar.cmpi .ne v633 c0_i32_420
  let v638 : BitVec 1 := Scalar.andi v637 v634
  let v639 : BitVec 32 := Scalar.addi v633 v632
  let v640 : BitVec 32 := Scalar.select v638 v639 v633
  let c256_i32_423 : BitVec 32 := 256#32
  let v641 : BitVec 32 := Scalar.muli v640 c256_i32_423
  ![0, v641.toNat]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Script.lean ====
/-
The kernel body as a script: the same memory operations in the same order, with the unrolled loops
of the kernel written as recursions over lists of offsets.
-/
module

public import proofs.«01_k».proof.Proof.Gen.KernelIdeal.Skeleton
public import Idealize.ShloMosaic.Lib.Tactic

@[expose] public section

noncomputable section

namespace Cert.Gather

open Cert.KernelIdeal Cert.KernelIdeal.Gen
open Idealize.ShloMosaic Idealize.ShloMosaic.TcCoe
open Idealize.SL.Sem

variable {F : FTy → Type} [FloatOps F]

/-- The programs the body is made of. -/
abbrev P (F : FTy → Type) [FloatOps F] := Prog (TpuEff nD τ sig (Elt F) Λ₀ .tc) PUnit

/-! ## The buffers -/

abbrev xM : Memref sig .tc .vmem S4096x256 .fp8e4m3 := Memref.whole cc0_stg0_0
abbrev wM : Memref sig .tc .hbm S4096x8192 .fp8e4m3 := Memref.whole main_arg1
abbrev sxM : Memref sig .tc .smem S1 .f32 := Memref.whole cc0_stg1_0
abbrev swM : Memref sig .tc .smem S1 .f32 := Memref.whole cc0_stg2_0
abbrev oM : Memref sig .tc .vmem S256x8192 .f32 := Memref.whole cc0_stg3_0
abbrev yM : Memref sig .tc .vmem S4096x256 .fp8e4m3 := Memref.whole cc0_scratch0
abbrev gM : Memref sig .tc .vmem S256x4096 .fp8e4m3 := Memref.whole cc0_scratch1
abbrev vM : Memref sig .tc .vmem S3x256x8192 .fp8e4m3 := Memref.whole cc0_scratch2

/-- The runtime's barrier semaphore. -/
abbrev barS : Sem sig := (SemArray.scalar (sig.barrier 0 rfl) : Sems sig S_).sem

/-! ## The rectangles of whole buffers -/

abbrev rX : Rect S4096x256 := Rect.unit (s := S4096x256) ![0, 0] S4096x256.size inb_S4096x256_S4096x256_0_0
abbrev rO : Rect S256x8192 := Rect.unit (s := S256x8192) ![0, 0] S256x8192.size inb_S256x8192_S256x8192_0_0
abbrev rS : Rect S1 := Rect.unit (s := S1) ![0] S1.size inb_S1_S1_0

/-! ## The slots of the weight buffer -/

theorem slot_inb (k : Fin 3) : ∀ a, (![k.val, 0, 0] : Fin 3 → ℕ) a + S1x256x8192.size a ≤ S3x256x8192.size a := by
  revert k; decide +kernel
theorem fsem_inb (k : Fin 3) : ∀ a, (![k.val] : Fin 1 → ℕ) a + S1.size a ≤ S3.size a := by
  revert k; decide +kernel

/-- Slot `k` of the weight buffer as a rectangle. -/
abbrev rSlot (k : Fin 3) : Rect S3x256x8192 := Rect.unit (s := S3x256x8192) ![k.val, 0, 0] S1x256x8192.size (slot_inb k)

theorem slot_words (k : Fin 3) : (rSlot k).WholeWords (EltTy.packing .fp8e4m3) :=
  match k with
  | 0 => wordsfp8e4m3_S3x256x8192_S1x256x8192_0_0_0
  | 1 => wordsfp8e4m3_S3x256x8192_S1x256x8192_1_0_0
  | 2 => wordsfp8e4m3_S3x256x8192_S1x256x8192_2_0_0

/-- Slot `k` of the weight buffer, as a matrix. -/
abbrev slotM (k : Fin 3) : Memref sig .tc .vmem S256x8192 .fp8e4m3 :=
  (vM.slice (rSlot k) (fun _ => rfl)).squeeze S256x8192 squeezes_S1x256x8192_S256x8192
theorem slotM_words (k : Fin 3) : (slotM k).view.WordExact :=
  ((Memref.isWhole_whole cc0_scratch2).wordExact_slice rfl _ (slot_words k)).reshape _ _

/-- The semaphore of slot `k`'s fetches. -/
abbrev fsem (k : Fin 3) : DmaSem sig :=
  ((cc0_scratch3.slice (Rect.unit (s := S3) ![k.val] S1.size (fsem_inb k))).squeeze S_ squeezes_S1_S_).sem

/-! ## The kernel's own offsets -/

/-- The device the `r`-th entry signal names. -/
abbrev sigDev (c : Dev nD) (r : Fin 15) : Dev nD := match r with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩

/-- The device the `r`-th remote copy names. -/
abbrev sendDev (c : Dev nD) (r : Fin 15) : Dev nD := match r with
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

/-! ## The operations -/

/-- Start the fetch of the `r`-th weight block into slot `k`. -/
def fetchOp (c : Dev nD) (r : Fin 16) (k : Fin 3) (K : P F) : P F :=
  Prog.op (.enqueueDma (wM.slice (Rect.unit (s := S4096x8192) (k0_off1 c (BitVec.ofNat 32 r.val)) S256x8192.size (k0_off1_inb c r)) (fun _ => rfl))
    (.here (slotM k)) (.dma (fsem k)) ((Memref.isWhole_whole main_arg1).wordExact_slice rfl _ (k0_off1_wordsfp8e4m3 c r)) (slotM_words k)
    ⟨Or.inl rfl, trivial⟩) fun _ => K

/-- Wait for the fetch of the `r`-th weight block into slot `k`. -/
def fetchWaitOp (c : Dev nD) (r : Fin 16) (k : Fin 3) (K : P F) : P F :=
  Prog.op (.waitDma2 (fsem k) (wM.slice (Rect.unit (s := S4096x8192) (k0_off1 c (BitVec.ofNat 32 r.val)) S256x8192.size (k0_off1_inb c r)) (fun _ => rfl))
    (slotM k) ((Memref.isWhole_whole main_arg1).wordExact_slice rfl _ (k0_off1_wordsfp8e4m3 c r)) (slotM_words k)) fun _ => K

/-- Signal the `r`-th peer's barrier. -/
def signalOp (c : Dev nD) (r : Fin 15) (K : P F) : P F :=
  Prog.op (.semSignal (sigDev c r, .tc) barS (1#32).toInt) fun _ => K

/-- The send semaphore of the `r`-th remote copy, and the receive semaphore of the block it brings here. -/
abbrev ssem' (c : Dev nD) (r : Fin 15) : DmaSem sig :=
  ((cc0_scratch4.slice (Rect.unit (s := S16) (k0_off2 c (BitVec.ofNat 32 (1 + r.val))) S1.size (k0_off2_inb c r))).squeeze S_ squeezes_S1_S_).sem
abbrev rsem' (c : Dev nD) (r : Fin 15) : DmaSem sig :=
  ((cc0_scratch5.slice (Rect.unit (s := S16) (k0_off2 c (BitVec.ofNat 32 (1 + r.val))) S1.size (k0_off2_inb c r))).squeeze S_ squeezes_S1_S_).sem
/-- The receive semaphore device `c`'s copies complete on at their destinations. -/
abbrev msem' (c : Dev nD) : DmaSem sig :=
  ((cc0_scratch5.slice (Rect.unit (s := S16) (k0_off3 c) S1.size (k0_off3_inb c))).squeeze S_ squeezes_S1_S_).sem

/-- The column block of the gathered matrix that device `c` writes at every peer. -/
abbrev gOwn' (c : Dev nD) : Memref sig .tc .vmem S256x256 .fp8e4m3 :=
  gM.slice (Rect.unit (s := S256x4096) (k0_off4 c) S256x256.size (k0_off4_inb c)) (fun _ => rfl)
theorem gOwn'_words (c : Dev nD) : (gOwn' c).view.WordExact :=
  (Memref.isWhole_whole cc0_scratch1).wordExact_slice rfl _ (k0_off4_wordsfp8e4m3 c)
/-- The row block the `r`-th remote copy reads. -/
abbrev yRows' (c : Dev nD) (r : Fin 15) : Memref sig .tc .vmem S256x256 .fp8e4m3 :=
  yM.slice (Rect.unit (s := S4096x256) (k0_off5 c (BitVec.ofNat 32 (1 + r.val))) S256x256.size (k0_off5_inb c r)) (fun _ => rfl)
theorem yRows'_words (c : Dev nD) (r : Fin 15) : (yRows' c r).view.WordExact :=
  (Memref.isWhole_whole cc0_scratch0).wordExact_slice rfl _ (k0_off5_wordsfp8e4m3 c r)

/-- Start the `r`-th remote copy. -/
def sendOp (c : Dev nD) (r : Fin 15) (K : P F) : P F :=
  Prog.op (.enqueueDma (yRows' c r) (.remote (Dev.tc (sendDev c r)) (gOwn' c) (.dma (ssem' c r))) (.dma (msem' c)) (yRows'_words c r) (gOwn'_words c)
    ⟨⟨rfl, Or.inl rfl⟩, trivial⟩) fun _ => K

/-- Wait until the `r`-th remote copy has been sent. -/
def sendWaitOp (c : Dev nD) (r : Fin 15) (K : P F) : P F :=
  Prog.op (.waitDma2 (ssem' c r) (gOwn' c) (yRows' c r) (gOwn'_words c) (yRows'_words c r)) fun _ => K

/-- Wait for the column block of the `r`-th peer. -/
def recvWaitOp (c : Dev nD) (r : Fin 15) (K : P F) : P F :=
  Prog.op (.waitDma2 (rsem' c r) (yM.slice (Rect.unit (s := S4096x256) ![0, 0] S256x256.size inb_S4096x256_S256x256_0_0) (fun _ => rfl))
    (gM.slice (Rect.unit (s := S256x4096) (k0_off9 c (BitVec.ofNat 32 (1 + r.val))) S256x256.size (k0_off9_inb c r)) (fun _ => rfl))
    ((Memref.isWhole_whole cc0_scratch0).wordExact_slice rfl _ wordsfp8e4m3_S4096x256_S256x256_0_0)
    ((Memref.isWhole_whole cc0_scratch1).wordExact_slice rfl _ (k0_off9_wordsfp8e4m3 c r))) fun _ => K

/-- Copy the staged block of `x` into the send buffer. -/
def copyOp (K : P F) : P F :=
  Prog.op (.load xM rX.toLoadRect (View.loadsAt_vmem h_S4096x256)) fun v54 =>
  Prog.op (.load yM rX.toLoadRect (View.loadsAt_vmem h_S4096x256)) fun _ =>
  Prog.op (.store yM rX (k0_pay2 v54) Finset.univ (View.stores_vmem h_S4096x256 ((Memref.isWhole_whole cc0_scratch0).storeExact_slice rfl _ packedfp8e4m3_S4096x256_S4096x256_0_0) (fun _ => rfl)) (.inl rfl)) fun _ => K

/-- Put the device's own row block into the gathered matrix. -/
def ownOp (c : Dev nD) (K : P F) : P F :=
  Prog.op (.load yM (Rect.unit (s := S4096x256) (k0_off6 c) S256x256.size (k0_off6_inb c)).toLoadRect (View.loadsAt_vmem h_S256x256)) fun v =>
  Prog.op (.load gM (Rect.unit (s := S256x4096) (k0_off7 c) S256x256.size (k0_off7_inb c)).toLoadRect (View.loadsAt_vmem h_S256x256)) fun _ =>
  Prog.op (.store gM (Rect.unit (s := S256x4096) (k0_off7 c) S256x256.size (k0_off7_inb c)) (k0_pay3 v) Finset.univ
    (View.stores_vmem h_S256x256 ((Memref.isWhole_whole cc0_scratch1).storeExact_slice rfl _ (k0_off7_packedfp8e4m3 c)) (fun _ => rfl)) (.inl rfl)) fun _ => K

/-- Load a block of the gathered matrix and the weights in slot `k`. -/
def blocksOp (c : Dev nD) (r : Fin 16) (k : Fin 3) (K : Vec F S256x256 .fp8e4m3 → Vec F S1x256x8192 .fp8e4m3 → P F) : P F :=
  Prog.op (.load gM (Rect.unit (s := S256x4096) (k0_off8 c (BitVec.ofNat 32 r.val)) S256x256.size (k0_off8_inb c r)).toLoadRect (View.loadsAt_vmem h_S256x256)) fun a =>
  Prog.op (.load vM (rSlot k).toLoadRect (View.loadsAt_vmem h_S1x256x8192)) fun b => K a b

/-- Load the output buffer. -/
def loadOut (K : Vec F S256x8192 .f32 → P F) : P F :=
  Prog.op (.load oM rO.toLoadRect (View.loadsAt_vmem h_S256x8192)) K
/-- Store the output buffer. -/
def storeOut (v : Vec F S256x8192 .f32) (K : P F) : P F :=
  Prog.op (.store oM rO v Finset.univ (View.stores_vmem_bits_univ h_S256x8192 rfl) (.inl rfl)) fun _ => K

/-- The first product, stored. -/
def firstOp (c : Dev nD) (r : Fin 16) (k : Fin 3) (K : P F) : P F :=
  blocksOp c r k fun a b => loadOut fun _ => storeOut (k0_pay4 a b) K
/-- A later product, added to what is stored. -/
def addOp (c : Dev nD) (r : Fin 16) (k : Fin 3) (K : P F) : P F :=
  blocksOp c r k fun a b => loadOut fun o => loadOut fun _ => storeOut (k0_pay5 a b o) K

/-- The scale and the activation. -/
def finishOp (K : P F) : P F :=
  loadOut fun o =>
  (smemLoad sxM rS numel1_S1 rfl).bind fun s => (smemLoad swM rS numel1_S1 rfl).bind fun t =>
  loadOut fun _ => storeOut (k0_pay1 o s t) K

/-- `f` at each entry of a list, in order, then `K`. -/
def each {α : Type} (f : α → P F → P F) (l : List α) (K : P F) : P F := l.foldr f K

/-- The peers' offsets, less one. -/
abbrev offs : List (Fin 15) := [0, 1, 2, 3, 4, 5, 6, 7, 8, 9, 10, 11, 12, 13, 14]

/-- The `r`-th later step: wait for the peer's block, for the weights, accumulate, and start the fetch
    that reuses the slot. -/
def stepOp (c : Dev nD) (r : Fin 15) (K : P F) : P F :=
  recvWaitOp c r <| fetchWaitOp c r.succ ⟨(r.val + 1) % 3, Nat.mod_lt _ (by decide)⟩ <| addOp c r.succ ⟨(r.val + 1) % 3, Nat.mod_lt _ (by decide)⟩ <|
  if h : r.val + 4 < 16 then fetchOp c ⟨r.val + 4, h⟩ ⟨(r.val + 1) % 3, Nat.mod_lt _ (by decide)⟩ K else K

/-- The body. -/
def script (c : Dev nD) : P F :=
  fetchOp c 0 0 <| fetchOp c 1 1 <| fetchOp c 2 2 <|
  copyOp <|
  each (signalOp c) offs <|
  Prog.op (.semWait barS (15#32).toInt) fun _ =>
  each (sendOp c) offs <|
  ownOp c <|
  fetchWaitOp c 0 0 <| firstOp c 0 0 <| fetchOp c 3 0 <|
  each (stepOp c) offs <|
  each (sendWaitOp c) offs <|
  finishOp <| Prog.ret ⟨⟩

set_option maxHeartbeats 4000000 in
set_option maxRecDepth 65536 in
/-- The body is the script. -/
theorem body_eq : cc0_body (F := F) xM (Memref.isWhole_whole _) wM (Memref.isWhole_whole _) sxM (Memref.isWhole_whole _) swM (Memref.isWhole_whole _)
    oM (Memref.isWhole_whole _) yM (Memref.isWhole_whole _) gM (Memref.isWhole_whole _) vM (Memref.isWhole_whole _) cc0_scratch3 cc0_scratch4 cc0_scratch5
    = Prog.op .deviceId (script (F := F)) := by
  rfl

end Cert.Gather
-- ==== Proof.Cells.lean ====
/-
Which device, which block and which semaphore each operation of the script names, in closed form.
-/
module

public import proofs.«01_k».proof.Proof.Script

@[expose] public section

noncomputable section

namespace Cert.Gather

open Cert.KernelIdeal Cert.KernelIdeal.Gen
open Idealize.ShloMosaic Idealize.ShloMosaic.TcCoe
open Idealize.SL.Sem

variable {F : FTy → Type} [FloatOps F]

/-- The device `r` places after `c` on the mesh. -/
def peer (c : Dev nD) (r : Fin 16) : Dev nD := ⟨(c.val + r.val) % 16, Nat.mod_lt _ (by decide)⟩
/-- The `r`-th other device, counted from the next one on. -/
abbrev pr (c : Dev nD) (r : Fin 15) : Dev nD := peer c r.succ

theorem peer_zero (c : Dev nD) : peer c 0 = c := by revert c; decide
theorem pr_ne (c : Dev nD) (r : Fin 15) : pr c r ≠ c := by revert c r; decide

/-! ## The devices named -/

set_option maxRecDepth 20000 in
theorem sigDev_eq (c : Dev nD) (r : Fin 15) : sigDev c r = pr c r := by revert c r; decide +kernel
set_option maxRecDepth 20000 in
theorem sendDev_eq (c : Dev nD) (r : Fin 15) : sendDev c r = pr c r := by revert c r; decide +kernel

/-! ## The offsets -/

theorem off1_eq (c : Dev nD) (r : Fin 16) : k0_off1 c (BitVec.ofNat 32 r.val) = ![256 * (peer c r).val, 0] := by revert c r; decide +kernel
theorem off4_eq (c : Dev nD) : k0_off4 c = ![0, 256 * c.val] := by revert c; decide +kernel
theorem off5_eq (c : Dev nD) (r : Fin 15) : k0_off5 c (BitVec.ofNat 32 (1 + r.val)) = ![256 * (pr c r).val, 0] := by revert c r; decide +kernel
theorem off6_eq (c : Dev nD) : k0_off6 c = ![256 * c.val, 0] := by revert c; decide +kernel
theorem off7_eq (c : Dev nD) : k0_off7 c = ![0, 256 * c.val] := by revert c; decide +kernel
theorem off8_eq (c : Dev nD) (r : Fin 16) : k0_off8 c (BitVec.ofNat 32 r.val) = ![0, 256 * (peer c r).val] := by revert c r; decide +kernel
theorem off9_eq (c : Dev nD) (r : Fin 15) : k0_off9 c (BitVec.ofNat 32 (1 + r.val)) = ![0, 256 * (pr c r).val] := by revert c r; decide +kernel

/-! ## The semaphores -/

/-- The send semaphore of the copies to device `p`; the receive semaphore of the block of device `p`. -/
def ssem (p : Dev nD) : DmaSem sig := ⟨7 + p.val, by have := p.isLt; show 7 + p.val < 39; have : nD = 16 := rfl; omega⟩
def rsem (p : Dev nD) : DmaSem sig := ⟨23 + p.val, by have := p.isLt; show 23 + p.val < 39; have : nD = 16 := rfl; omega⟩

theorem ssem'_eq (c : Dev nD) (r : Fin 15) : ssem' c r = ssem (pr c r) := by revert c r; decide +kernel
theorem rsem'_eq (c : Dev nD) (r : Fin 15) : rsem' c r = rsem (pr c r) := by revert c r; decide +kernel
theorem msem'_eq (c : Dev nD) : msem' c = rsem c := by revert c; decide +kernel
theorem fsem_eq (k : Fin 3) : (fsem k).val = 4 + k.val := by revert k; decide +kernel

/-! ## The blocks -/

theorem wR_inb (p : Dev nD) : ∀ a, (![256 * p.val, 0] : Fin 2 → ℕ) a + S256x8192.size a ≤ S4096x8192.size a := by revert p; decide +kernel
theorem yR_inb (p : Dev nD) : ∀ a, (![256 * p.val, 0] : Fin 2 → ℕ) a + S256x256.size a ≤ S4096x256.size a := by revert p; decide +kernel
theorem gC_inb (p : Dev nD) : ∀ a, (![0, 256 * p.val] : Fin 2 → ℕ) a + S256x256.size a ≤ S256x4096.size a := by revert p; decide +kernel

/-- Rows `256 p …` of the weights and of the send buffer; columns `256 p …` of the gathered matrix. -/
abbrev wR (p : Dev nD) : Rect S4096x8192 := Rect.unit (s := S4096x8192) ![256 * p.val, 0] S256x8192.size (wR_inb p)
abbrev yR (p : Dev nD) : Rect S4096x256 := Rect.unit (s := S4096x256) ![256 * p.val, 0] S256x256.size (yR_inb p)
abbrev gC (p : Dev nD) : Rect S256x4096 := Rect.unit (s := S256x4096) ![0, 256 * p.val] S256x256.size (gC_inb p)

/-- A rectangle of whole words stays one when its offsets are written differently. -/
theorem words_congr {s : Shape} {o o' size : Fin s.rank → ℕ} (h : o = o') {i : ∀ a, o a + size a ≤ s.size a} (i' : ∀ a, o' a + size a ≤ s.size a)
    {n : ℕ} (w : (Rect.unit o size i).WholeWords n) : (Rect.unit o' size i').WholeWords n := by subst h; exact w

theorem wR_words (p : Dev nD) : (wR p).WholeWords (EltTy.packing .fp8e4m3) :=
  words_congr (by rw [off1_eq, peer_zero]) (wR_inb p) (k0_off1_wordsfp8e4m3 p 0)
theorem gC_words (p : Dev nD) : (gC p).WholeWords (EltTy.packing .fp8e4m3) :=
  words_congr (off4_eq p) (gC_inb p) (k0_off4_wordsfp8e4m3 p)
theorem yR_words (p : Dev nD) : (yR p).WholeWords (EltTy.packing .fp8e4m3) := by
  have h : pr (peer p 15) 0 = p := by revert p; decide
  refine words_congr ?_ (yR_inb p) (k0_off5_wordsfp8e4m3 (peer p 15) 0)
  rw [off5_eq, h]

abbrev wB (p : Dev nD) : Memref sig .tc .hbm S256x8192 .fp8e4m3 := wM.slice (wR p) (fun _ => rfl)
abbrev yB (p : Dev nD) : Memref sig .tc .vmem S256x256 .fp8e4m3 := yM.slice (yR p) (fun _ => rfl)
abbrev gB (p : Dev nD) : Memref sig .tc .vmem S256x256 .fp8e4m3 := gM.slice (gC p) (fun _ => rfl)
theorem wB_words (p : Dev nD) : (wB p).view.WordExact := (Memref.isWhole_whole main_arg1).wordExact_slice rfl _ (wR_words p)
theorem yB_words (p : Dev nD) : (yB p).view.WordExact := (Memref.isWhole_whole cc0_scratch0).wordExact_slice rfl _ (yR_words p)
theorem gB_words (p : Dev nD) : (gB p).view.WordExact := (Memref.isWhole_whole cc0_scratch1).wordExact_slice rfl _ (gC_words p)

/-! ## The operations in closed form -/

theorem fetchOp_eq (c : Dev nD) (r : Fin 16) (k : Fin 3) (K : P F) : fetchOp c r k K =
    Prog.op (.enqueueDma (wB (peer c r)) (.here (slotM k)) (.dma (fsem k)) (wB_words _) (slotM_words k) ⟨Or.inl rfl, trivial⟩) fun _ => K := by
  have key : ∀ (o : Fin 2 → ℕ) (i : ∀ a, o a + S256x8192.size a ≤ S4096x8192.size a) (w) (w'), o = ![256 * (peer c r).val, 0] →
      (Prog.op (.enqueueDma (wM.slice (Rect.unit (s := S4096x8192) o S256x8192.size i) (fun _ => rfl)) (.here (slotM k)) (.dma (fsem k)) w w'
        ⟨Or.inl rfl, trivial⟩) fun _ => K : P F) =
      Prog.op (.enqueueDma (wB (peer c r)) (.here (slotM k)) (.dma (fsem k)) (wB_words _) (slotM_words k) ⟨Or.inl rfl, trivial⟩) fun _ => K := by
    rintro _ i w w' rfl; rfl
  exact key _ _ _ _ (off1_eq c r)

theorem fetchWaitOp_eq (c : Dev nD) (r : Fin 16) (k : Fin 3) (K : P F) : fetchWaitOp c r k K =
    Prog.op (.waitDma2 (fsem k) (wB (peer c r)) (slotM k) (wB_words _) (slotM_words k)) fun _ => K := by
  have key : ∀ (o : Fin 2 → ℕ) (i : ∀ a, o a + S256x8192.size a ≤ S4096x8192.size a) (w) (w'), o = ![256 * (peer c r).val, 0] →
      (Prog.op (.waitDma2 (fsem k) (wM.slice (Rect.unit (s := S4096x8192) o S256x8192.size i) (fun _ => rfl)) (slotM k) w w') fun _ => K : P F) =
      Prog.op (.waitDma2 (fsem k) (wB (peer c r)) (slotM k) (wB_words _) (slotM_words k)) fun _ => K := by
    rintro _ i w w' rfl; rfl
  exact key _ _ _ _ (off1_eq c r)

theorem signalOp_eq (c : Dev nD) (r : Fin 15) (K : P F) : signalOp c r K =
    Prog.op (.semSignal (pr c r, .tc) barS (1#32).toInt) fun _ => K := by unfold signalOp; rw [sigDev_eq]

theorem sendOp_eq (c : Dev nD) (r : Fin 15) (K : P F) : sendOp c r K =
    Prog.op (.enqueueDma (yB (pr c r)) (.remote (Dev.tc (pr c r)) (gB c) (.dma (ssem (pr c r)))) (.dma (rsem c)) (yB_words _) (gB_words c)
      ⟨⟨rfl, Or.inl rfl⟩, trivial⟩) fun _ => K := by
  have key : ∀ (o : Fin 2 → ℕ) (i : ∀ a, o a + S256x256.size a ≤ S4096x256.size a) (w) (o' : Fin 2 → ℕ) (i' : ∀ a, o' a + S256x256.size a ≤ S256x4096.size a)
      (w' : (gM.slice (Rect.unit (s := S256x4096) o' S256x256.size i') (fun _ => rfl)).view.WordExact) (d : Dev nD) (s m : DmaSem sig), o = ![256 * (pr c r).val, 0] → o' = ![0, 256 * c.val] → d = pr c r → s = ssem (pr c r) → m = rsem c →
      (Prog.op (.enqueueDma (yM.slice (Rect.unit (s := S4096x256) o S256x256.size i) (fun _ => rfl))
        (.remote (Dev.tc d) (gM.slice (Rect.unit (s := S256x4096) o' S256x256.size i') (fun _ => rfl)) (.dma s)) (.dma m) w w'
        ⟨⟨rfl, Or.inl rfl⟩, trivial⟩) fun _ => K : P F) =
      Prog.op (.enqueueDma (yB (pr c r)) (.remote (Dev.tc (pr c r)) (gB c) (.dma (ssem (pr c r)))) (.dma (rsem c)) (yB_words _) (gB_words c)
        ⟨⟨rfl, Or.inl rfl⟩, trivial⟩) fun _ => K := by
    rintro _ i w _ i' w' _ _ _ rfl rfl rfl rfl rfl; rfl
  exact key _ _ _ _ _ _ _ _ _ (off5_eq c r) (off4_eq c) (sendDev_eq c r) (ssem'_eq c r) (msem'_eq c)

theorem sendWaitOp_eq (c : Dev nD) (r : Fin 15) (K : P F) : sendWaitOp c r K =
    Prog.op (.waitDma2 (ssem (pr c r)) (gB c) (yB (pr c r)) (gB_words c) (yB_words _)) fun _ => K := by
  have key : ∀ (o : Fin 2 → ℕ) (i : ∀ a, o a + S256x256.size a ≤ S4096x256.size a) (w) (o' : Fin 2 → ℕ) (i' : ∀ a, o' a + S256x256.size a ≤ S256x4096.size a) (w')
      (s : DmaSem sig), o = ![256 * (pr c r).val, 0] → o' = ![0, 256 * c.val] → s = ssem (pr c r) →
      (Prog.op (.waitDma2 s (gM.slice (Rect.unit (s := S256x4096) o' S256x256.size i') (fun _ => rfl))
        (yM.slice (Rect.unit (s := S4096x256) o S256x256.size i) (fun _ => rfl)) w' w) fun _ => K : P F) =
      Prog.op (.waitDma2 (ssem (pr c r)) (gB c) (yB (pr c r)) (gB_words c) (yB_words _)) fun _ => K := by
    rintro _ i w _ i' w' _ rfl rfl rfl; rfl
  exact key _ _ _ _ _ _ _ (off5_eq c r) (off4_eq c) (ssem'_eq c r)

/-- The memref the receive waits name as their source. -/
abbrev yTop : Memref sig .tc .vmem S256x256 .fp8e4m3 := yM.slice (Rect.unit (s := S4096x256) ![0, 0] S256x256.size inb_S4096x256_S256x256_0_0) (fun _ => rfl)
theorem yTop_words : yTop.view.WordExact := (Memref.isWhole_whole cc0_scratch0).wordExact_slice rfl _ wordsfp8e4m3_S4096x256_S256x256_0_0

theorem recvWaitOp_eq (c : Dev nD) (r : Fin 15) (K : P F) : recvWaitOp c r K =
    Prog.op (.waitDma2 (rsem (pr c r)) yTop (gB (pr c r)) yTop_words (gB_words _)) fun _ => K := by
  have key : ∀ (o' : Fin 2 → ℕ) (i' : ∀ a, o' a + S256x256.size a ≤ S256x4096.size a) (w')
      (s : DmaSem sig), o' = ![0, 256 * (pr c r).val] → s = rsem (pr c r) →
      (Prog.op (.waitDma2 s yTop (gM.slice (Rect.unit (s := S256x4096) o' S256x256.size i') (fun _ => rfl)) yTop_words w') fun _ => K : P F) =
      Prog.op (.waitDma2 (rsem (pr c r)) yTop (gB (pr c r)) yTop_words (gB_words _)) fun _ => K := by
    rintro _ i' w' _ rfl rfl; rfl
  exact key _ _ _ _ (off9_eq c r) (rsem'_eq c r)

theorem gC_stores (p : Dev nD) : (gM.access (gC p)).Stores Finset.univ := by
  have key : ∀ (o' : Fin 2 → ℕ) (i' : ∀ a, o' a + S256x256.size a ≤ S256x4096.size a), o' = ![0, 256 * p.val] →
      (gM.access (Rect.unit (s := S256x4096) o' S256x256.size i')).Stores Finset.univ → (gM.access (gC p)).Stores Finset.univ := by
    rintro _ i' rfl h; exact h
  exact key _ _ (off7_eq p) (View.stores_vmem h_S256x256 ((Memref.isWhole_whole cc0_scratch1).storeExact_slice rfl _ (k0_off7_packedfp8e4m3 p)) (fun _ => rfl))

theorem ownOp_eq (c : Dev nD) (K : P F) : ownOp c K =
    Prog.op (.load yM (yR c).toLoadRect (View.loadsAt_vmem h_S256x256)) fun v =>
    Prog.op (.load gM (gC c).toLoadRect (View.loadsAt_vmem h_S256x256)) fun _ =>
    Prog.op (.store gM (gC c) (k0_pay3 v) Finset.univ (gC_stores c) (.inl rfl)) fun _ => K := by
  have key : ∀ (o : Fin 2 → ℕ) (i : ∀ a, o a + S256x256.size a ≤ S4096x256.size a) (o' : Fin 2 → ℕ) (i' : ∀ a, o' a + S256x256.size a ≤ S256x4096.size a) (w'),
      o = ![256 * c.val, 0] → o' = ![0, 256 * c.val] →
      (Prog.op (.load yM (Rect.unit (s := S4096x256) o S256x256.size i).toLoadRect (View.loadsAt_vmem h_S256x256)) fun v =>
       Prog.op (.load gM (Rect.unit (s := S256x4096) o' S256x256.size i').toLoadRect (View.loadsAt_vmem h_S256x256)) fun _ =>
       Prog.op (.store gM (Rect.unit (s := S256x4096) o' S256x256.size i') (k0_pay3 v) Finset.univ w' (.inl rfl)) fun _ => K : P F) =
      Prog.op (.load yM (yR c).toLoadRect (View.loadsAt_vmem h_S256x256)) fun v =>
      Prog.op (.load gM (gC c).toLoadRect (View.loadsAt_vmem h_S256x256)) fun _ =>
      Prog.op (.store gM (gC c) (k0_pay3 v) Finset.univ (gC_stores c) (.inl rfl)) fun _ => K := by
    rintro _ i _ i' w' rfl rfl; rfl
  exact key _ _ _ _ _ (off6_eq c) (off7_eq c)

theorem blocksOp_eq (c : Dev nD) (r : Fin 16) (k : Fin 3) (K : Vec F S256x256 .fp8e4m3 → Vec F S1x256x8192 .fp8e4m3 → P F) : blocksOp c r k K =
    Prog.op (.load gM (gC (peer c r)).toLoadRect (View.loadsAt_vmem h_S256x256)) fun a =>
    Prog.op (.load vM (rSlot k).toLoadRect (View.loadsAt_vmem h_S1x256x8192)) fun b => K a b := by
  have key : ∀ (o' : Fin 2 → ℕ) (i' : ∀ a, o' a + S256x256.size a ≤ S256x4096.size a), o' = ![0, 256 * (peer c r).val] →
      (Prog.op (.load gM (Rect.unit (s := S256x4096) o' S256x256.size i').toLoadRect (View.loadsAt_vmem h_S256x256)) fun a =>
       Prog.op (.load vM (rSlot k).toLoadRect (View.loadsAt_vmem h_S1x256x8192)) fun b => K a b : P F) =
      Prog.op (.load gM (gC (peer c r)).toLoadRect (View.loadsAt_vmem h_S256x256)) fun a =>
      Prog.op (.load vM (rSlot k).toLoadRect (View.loadsAt_vmem h_S1x256x8192)) fun b => K a b := by
    rintro _ i' rfl; rfl
  exact key _ _ (off8_eq c r)

/-! ## The blocks partition the buffers -/

theorem yR_disjoint {p p' : Dev nD} (h : p ≠ p') : Disjoint (yR p).set (yR p').set := by
  refine Rect.disjoint_of_separated _ _ (0 : Fin 2) ?_
  have h' : p.val ≠ p'.val := fun e => h (Fin.ext e)
  show (256 = 0 ∨ 256 * p.val + 1 * (256 - 1) < 256 * p'.val) ∨ (256 = 0 ∨ 256 * p'.val + 1 * (256 - 1) < 256 * p.val)
  omega

theorem gC_disjoint {p p' : Dev nD} (h : p ≠ p') : Disjoint (gC p).set (gC p').set := by
  refine Rect.disjoint_of_separated _ _ (1 : Fin 2) ?_
  have h' : p.val ≠ p'.val := fun e => h (Fin.ext e)
  show (256 = 0 ∨ 256 * p.val + 1 * (256 - 1) < 256 * p'.val) ∨ (256 = 0 ∨ 256 * p'.val + 1 * (256 - 1) < 256 * p.val)
  omega

theorem yR_cover : (Finset.univ : Finset (Dev nD)).biUnion (fun p => (yR p).set) = Finset.univ := by
  ext i
  simp only [Finset.mem_biUnion, Finset.mem_univ, true_and, iff_true]
  have h0 : (i 0).val < 4096 := (i 0).isLt
  have h1 : (i 1).val < 256 := (i 1).isLt
  refine ⟨⟨(i 0).val / 256, by show _ < 16; omega⟩, Rect.mem_set_unit.mpr fun a => ?_⟩
  fin_cases a
  · show 256 * ((i 0).val / 256) ≤ (i 0).val ∧ (i 0).val < 256 * ((i 0).val / 256) + 256
    omega
  · show 0 ≤ (i 1).val ∧ (i 1).val < 0 + 256
    omega

theorem gC_cover : (Finset.univ : Finset (Dev nD)).biUnion (fun p => (gC p).set) = Finset.univ := by
  ext i
  simp only [Finset.mem_biUnion, Finset.mem_univ, true_and, iff_true]
  have h0 : (i 0).val < 256 := (i 0).isLt
  have h1 : (i 1).val < 4096 := (i 1).isLt
  refine ⟨⟨(i 1).val / 256, by show _ < 16; omega⟩, Rect.mem_set_unit.mpr fun a => ?_⟩
  fin_cases a
  · show 0 ≤ (i 0).val ∧ (i 0).val < 0 + 256
    omega
  · show 256 * ((i 1).val / 256) ≤ (i 1).val ∧ (i 1).val < 256 * ((i 1).val / 256) + 256
    omega

/-- The three slots of the weight buffer partition it. -/
theorem rSlot_disjoint {k k' : Fin 3} (h : k ≠ k') : Disjoint (rSlot k).set (rSlot k').set := by
  refine Rect.disjoint_of_separated _ _ (0 : Fin 3) ?_
  have h' : k.val ≠ k'.val := fun e => h (Fin.ext e)
  show (1 = 0 ∨ k.val + 1 * (1 - 1) < k'.val) ∨ (1 = 0 ∨ k'.val + 1 * (1 - 1) < k.val)
  omega

theorem rSlot_cover : (Finset.univ : Finset (Fin 3)).biUnion (fun k => (rSlot k).set) = Finset.univ := by
  ext i
  simp only [Finset.mem_biUnion, Finset.mem_univ, true_and, iff_true]
  have h1 : (i 1).val < 256 := (i 1).isLt
  have h2 : (i 2).val < 8192 := (i 2).isLt
  refine ⟨⟨(i 0).val, (i 0).isLt⟩, Rect.mem_set_unit.mpr fun a => ?_⟩
  fin_cases a
  · show (i 0).val ≤ (i 0).val ∧ (i 0).val < (i 0).val + 1
    omega
  · show 0 ≤ (i 1).val ∧ (i 1).val < 0 + 256
    omega
  · show 0 ≤ (i 2).val ∧ (i 2).val < 0 + 8192
    omega

/-! ## The sets the memrefs name -/

theorem yB_set (p : Dev nD) : (yB p).view.set = (yR p).set := View.set_slice_whole _ _
theorem gB_set (p : Dev nD) : (gB p).view.set = (gC p).set := View.set_slice_whole _ _
theorem wB_set (p : Dev nD) : (wB p).view.set = (wR p).set := View.set_slice_whole _ _
theorem slotM_set (k : Fin 3) : (slotM k).view.set = (rSlot k).set :=
  (View.set_reshape _ _).trans (View.set_slice_whole _ _)

end Cert.Gather
-- ==== Proof.Schedule.lean ====
/-
The protocol of the exchange: what each semaphore's one round is for, who pays it and what the payment
hands over; what every device owes at launch, and the levels of the waits.

A device's barrier semaphore is signalled once by every other device: the signal of device `d` hands over
`d`'s column block of the gathered matrix that the signalled device will fill. Device `c`'s send semaphore
for `p` is paid by its own copy to `p` and gives back the rows it read; its receive semaphore for `s` is
paid by the copy of `s` and hands over `s`'s block, landed.
-/
module

public import proofs.«01_k».proof.Proof.Cells
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Pipeline.BigSepL
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds, the exchange's rounds, the counters of local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev sendCell (c p : Dev nD) : GSem nD τ sig := ((c : Thread nD τ), .dma (ssem p))
abbrev recvCell (c s : Dev nD) : GSem nD τ sig := ((c : Thread nD τ), .dma (rsem s))

/-- The units one block's copy counts. -/
abbrev N : ℕ := (gB 0).view.dmaCredit
theorem N_pos : 0 < N := View.dmaCredit_pos _ (by decide)
theorem credit_g (p : Dev nD) : (gB p).view.dmaCredit = N := rfl
theorem credit_y (p : Dev nD) : (yB p).view.dmaCredit = N := rfl

/-! ## The contents -/

/-- The staged block of `x` of device `c`, the two staged scales, the weights. -/
def xstg (c : Dev nD) : (cc0_stg0_0 : Ref sig .tc).ty.Contents (Elt F) :=
  (win0_0.blk (0 : Fin 1)).view.read (Elt F) ((s₀ m ρ).mem ((c : Thread nD τ).loc main_arg0))
def sxstg (c : Dev nD) : (cc0_stg1_0 : Ref sig .tc).ty.Contents (Elt F) :=
  (win0_1.blk (0 : Fin 1)).view.read (Elt F) ((s₀ m ρ).mem ((c : Thread nD τ).loc main_arg2))
def swstg (c : Dev nD) : (cc0_stg2_0 : Ref sig .tc).ty.Contents (Elt F) :=
  (win0_2.blk (0 : Fin 1)).view.read (Elt F) ((s₀ m ρ).mem ((c : Thread nD τ).loc main_arg3))
def wbuf (c : Dev nD) : Buf (Elt F) ((c : Thread nD τ).loc main_arg1) := (s₀ m ρ).mem ((c : Thread nD τ).loc main_arg1)

/-- What device `c` puts into its send buffer. -/
def y8 (c : Dev nD) : (cc0_scratch0 : Ref sig .tc).ty.Contents (Elt F) := k0_pay2 (xstg m ρ c)

/-- The block device `s` sends to device `p`. -/
def X (s p : Dev nD) : S256x256.Idx → Elt F .fp8e4m3 := (yB p).view.read (Elt F) (y8 m ρ s)
/-- Device `c`'s block of the weights at device `p`'s rows. -/
def W (c p : Dev nD) : S256x8192.Idx → Elt F .fp8e4m3 := (wB p).view.read (Elt F) (wbuf m ρ c)

/-- Column block `p` of device `d`'s gathered matrix, at whatever it holds. -/
def gFree (d p : Dev nD) : sProp 𝕄 :=
  iprop(∃ f : Buf (Elt F) ((gB p).view.loc (d : Thread nD τ)), (gB p).view.loc (d : Thread nD τ) ↦[(gB p).view.set]{fullShare} f)
/-- The rows for `p` of device `c`'s send buffer. -/
def ySrc (c p : Dev nD) : sProp 𝕄 := (yB p).view.loc (c : Thread nD τ) ↦[(yB p).view.set]{fullShare} y8 m ρ c
/-- Column block `s` of device `c`'s gathered matrix, holding the block of `s`. -/
def gGot (c s : Dev nD) : sProp 𝕄 := owns (c : Thread nD τ) (gB s) fullShare (X m ρ s c)

omit [FloatOps F] in
instance gFree_storable (d p : Dev nD) : BI.Storable (upEmb : UEmb _ 𝕄) (gFree (F := F) d p) := by unfold gFree; infer_instance
instance ySrc_storable (c p : Dev nD) : BI.Storable (upEmb : UEmb _ 𝕄) (ySrc (F := F) m ρ c p) := by unfold ySrc; infer_instance
instance gGot_storable (c s : Dev nD) : BI.Storable (upEmb : UEmb _ 𝕄) (gGot (F := F) m ρ c s) := by unfold gGot; infer_instance

/-! ## The schedule -/

/-- The device a send or receive semaphore is for. -/
def semDev (q : DmaSem sig) : Dev nD := ⟨(q.val - 7) % 16, Nat.mod_lt _ (by decide)⟩
theorem semDev_ssem (p : Dev nD) : semDev (ssem p) = p := by revert p; decide
theorem semDev_rsem (p : Dev nD) : semDev (rsem p) = p := by revert p; decide

/-- Who pays a cell of device `c`. -/
def payers (c : Dev nD) : SemLoc sig → Finset (Dev nD)
  | .reg s => if s = barS then Finset.univ.erase c else ∅
  | .dma q => if q.val < 7 then ∅ else if semDev q = c then ∅ else if q.val < 23 then {c} else {semDev q}

def pay (c d : Dev nD) : SemLoc sig → sProp 𝕄
  | .reg s => gFree d c
  | .dma q => if q.val < 23 then ySrc m ρ c (semDev q) else gGot m ρ c (semDev q)

def gatherRd : Rounds.Schedule (GSem nD τ sig) (Dev nD) 𝕄 where
  duties g r := if r = 0 ∧ g.1.2 = .tc then payers g.1.1 g.2 else ∅
  unitless _ := False
  amount g _ _ := match g.2 with | .reg _ => 1 | .dma _ => N
  payload g _ d := pay m ρ g.1.1 d g.2
  amount_pos g _ _ _ := by
    rcases g with ⟨t, s | q⟩
    · exact Nat.one_pos
    · exact N_pos

instance gatherRd_payload_storable (g : GSem nD τ sig) (r : ℕ) (d : Dev nD) :
    BI.Storable (upEmb : UEmb _ 𝕄) ((gatherRd (F := F) m ρ).payload g r d) := by
  rcases g with ⟨t, s | q⟩
  · show BI.Storable upEmb (gFree d t.1); infer_instance
  · show BI.Storable upEmb (if q.val < 23 then ySrc m ρ t.1 (semDev q) else gGot m ρ t.1 (semDev q))
    split <;> infer_instance

section Sched
variable (c p s d : Dev nD)

theorem ssem_val : (ssem p).val = 7 + p.val := rfl
theorem rsem_val : (rsem p).val = 23 + p.val := rfl
theorem dev_lt : p.val < 16 := p.isLt

theorem duties_bar : (gatherRd (F := F) m ρ).duties (barCell c) 0 = Finset.univ.erase c := by
  show (if 0 = 0 ∧ (Proc.tc : Proc τ) = .tc then payers c (.reg barS) else ∅) = _
  rw [if_pos ⟨rfl, rfl⟩]; unfold payers; exact if_pos rfl
theorem duties_send (h : p ≠ c) : (gatherRd (F := F) m ρ).duties (sendCell c p) 0 = {c} := by
  show (if 0 = 0 ∧ (Proc.tc : Proc τ) = .tc then payers c (.dma (ssem p)) else ∅) = _
  have := dev_lt p
  rw [if_pos ⟨rfl, rfl⟩]; unfold payers
  dsimp only
  rw [if_neg (by rw [ssem_val]; omega), semDev_ssem, if_neg h, if_pos (by rw [ssem_val]; omega)]
theorem duties_recv (h : s ≠ c) : (gatherRd (F := F) m ρ).duties (recvCell c s) 0 = {s} := by
  show (if 0 = 0 ∧ (Proc.tc : Proc τ) = .tc then payers c (.dma (rsem s)) else ∅) = _
  rw [if_pos ⟨rfl, rfl⟩]; unfold payers
  dsimp only
  rw [if_neg (by rw [rsem_val]; omega), semDev_rsem, if_neg h, if_neg (by rw [rsem_val]; omega)]
theorem duties_later (g : GSem nD τ sig) : ∀ r, 1 ≤ r → (gatherRd (F := F) m ρ).duties g r = ∅ :=
  fun r hr => if_neg fun h => by omega
theorem duties_send_self : ∀ r, (gatherRd (F := F) m ρ).duties (sendCell c c) r = ∅ := by
  intro r
  show (if r = 0 ∧ (Proc.tc : Proc τ) = .tc then payers c (.dma (ssem c)) else ∅) = _
  split
  · unfold payers; dsimp only; rw [semDev_ssem, if_pos rfl, ite_self]
  · rfl
theorem duties_recv_self : ∀ r, (gatherRd (F := F) m ρ).duties (recvCell c c) r = ∅ := by
  intro r
  show (if r = 0 ∧ (Proc.tc : Proc τ) = .tc then payers c (.dma (rsem c)) else ∅) = _
  split
  · unfold payers; dsimp only; rw [semDev_rsem, if_pos rfl, ite_self]
  · rfl

theorem amount_bar : (gatherRd (F := F) m ρ).amount (barCell c) 0 d = 1 := rfl
theorem amount_send : (gatherRd (F := F) m ρ).amount (sendCell c p) 0 d = N := rfl
theorem amount_recv : (gatherRd (F := F) m ρ).amount (recvCell c s) 0 d = N := rfl

theorem expect_bar : (gatherRd (F := F) m ρ).expect (barCell c) 0 = 15 := by
  unfold Schedule.expect Schedule.amountOf
  rw [duties_bar, Finset.sum_congr rfl fun d _ => amount_bar m ρ c d, Finset.sum_const, Finset.card_erase_of_mem (Finset.mem_univ _), smul_eq_mul]
  rfl
theorem expect_send (h : p ≠ c) : (gatherRd (F := F) m ρ).expect (sendCell c p) 0 = N := by
  unfold Schedule.expect Schedule.amountOf; rw [duties_send _ _ _ _ h, Finset.sum_singleton, amount_send]
theorem expect_recv (h : s ≠ c) : (gatherRd (F := F) m ρ).expect (recvCell c s) 0 = N := by
  unfold Schedule.expect Schedule.amountOf; rw [duties_recv _ _ _ _ h, Finset.sum_singleton, amount_recv]

theorem payload_bar : (gatherRd (F := F) m ρ).payload (barCell c) 0 d = gFree d c := rfl
theorem payload_send : (gatherRd (F := F) m ρ).payload (sendCell c p) 0 d = ySrc m ρ c p := by
  show (if (ssem p).val < 23 then ySrc m ρ c (semDev (ssem p)) else gGot m ρ c (semDev (ssem p))) = _
  have := dev_lt p
  rw [if_pos (by rw [ssem_val]; omega), semDev_ssem]
theorem payload_recv : (gatherRd (F := F) m ρ).payload (recvCell c s) 0 d = gGot m ρ c s := by
  show (if (rsem s).val < 23 then ySrc m ρ c (semDev (rsem s)) else gGot m ρ c (semDev (rsem s))) = _
  rw [if_neg (by rw [rsem_val]; omega), semDev_rsem]

end Sched

/-! ## All other devices, listed -/

theorem others_eq (c : Dev nD) : Finset.univ.erase c = (offs.map (pr c)).toFinset := by revert c; decide
theorem others_nodup (c : Dev nD) : (offs.map (pr c)).Nodup := by revert c; decide

omit [FloatOps F] in
/-- Over the other devices, one after another. -/
theorem bigSep_others (c : Dev nD) (Φ : Dev nD → sProp 𝕄) : bigSep (Finset.univ.erase c) Φ = bigSepL offs fun r => Φ (pr c r) := by
  rw [bigSep_eq_bigSepL_of_eq _ (others_eq c) (others_nodup c), bigSepL_map]
omit [FloatOps F] in
/-- Over all devices: the device itself, then the others one after another. -/
theorem bigSep_devs (c : Dev nD) (Φ : Dev nD → sProp 𝕄) : bigSep Finset.univ Φ = iprop(Φ c ∗ bigSepL offs fun r => Φ (pr c r)) := by
  rw [bigSep_univ_at _ c, bigSep_others]

/-- The rest of a barrier cell's round, none of it taken: every other device's column block for `c`. -/
theorem rest_bar (c : Dev nD) : bigSep ((gatherRd (F := F) m ρ).duties (barCell c) 0 \ ∅) (fun d => (gatherRd (F := F) m ρ).payload (barCell c) 0 d)
    = bigSepL offs fun r => gFree (pr c r) c := by
  rw [Finset.sdiff_empty, duties_bar, bigSep_others]; rfl
theorem rest_send (c p : Dev nD) (h : p ≠ c) : bigSep ((gatherRd (F := F) m ρ).duties (sendCell c p) 0 \ ∅) (fun d => (gatherRd (F := F) m ρ).payload (sendCell c p) 0 d)
    = ySrc m ρ c p := by
  rw [Finset.sdiff_empty, duties_send _ _ _ _ h, bigSep_singleton, payload_send]
theorem rest_recv (c s : Dev nD) (h : s ≠ c) : bigSep ((gatherRd (F := F) m ρ).duties (recvCell c s) 0 \ ∅) (fun d => (gatherRd (F := F) m ρ).payload (recvCell c s) 0 d)
    = gGot m ρ c s := by
  rw [Finset.sdiff_empty, duties_recv _ _ _ _ h, bigSep_singleton, payload_recv]

/-! ## What each device owes at launch; the levels -/

/-- A unit to the barrier of each peer listed; a block's units to the receive cell of each peer listed. -/
def oBar (c : Dev nD) (l : List (Fin 15)) : CellTallies nD τ sig Unit := (l.map fun r => tallyAt (barCell (pr c r)) () 1).sum
def oRecv (c : Dev nD) (l : List (Fin 15)) : CellTallies nD τ sig Unit := (l.map fun r => tallyAt (recvCell (pr c r) c) () N).sum
def O₀ (c : Dev nD) : CellTallies nD τ sig Unit := oRecv c offs + oBar c offs

theorem oBar_cons (c : Dev nD) (r : Fin 15) (l : List (Fin 15)) : oBar c (r :: l) = oBar c l + tallyAt (barCell (pr c r)) () 1 := by
  unfold oBar; rw [List.map_cons, List.sum_cons, add_comm]
theorem oRecv_cons (c : Dev nD) (r : Fin 15) (l : List (Fin 15)) : oRecv c (r :: l) = oRecv c l + tallyAt (recvCell (pr c r) c) () N := by
  unfold oRecv; rw [List.map_cons, List.sum_cons, add_comm]

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if q.val < 23 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c s : Dev nD) : lv (recvCell c s) () = 2 := if_neg (by show ¬ 23 + s.val < 23; omega)

theorem oRecv_pos {c : Dev nD} {l : List (Fin 15)} {g : GSem nD τ sig} {u : Unit} (h : 0 < oRecv c l g u) : ∃ p, g = recvCell p c := by
  induction l with
  | nil => exact absurd h (Nat.lt_irrefl 0)
  | cons r l ih =>
    rw [oRecv_cons, Pi.add_apply, Finsupp.add_apply, tallyAt_apply] at h
    by_cases hg : g = recvCell (pr c r) c ∧ u = ()
    · exact ⟨_, hg.1⟩
    · rw [if_neg hg] at h; exact ih h
theorem oBar_pos {c : Dev nD} {l : List (Fin 15)} {g : GSem nD τ sig} {u : Unit} (h : 0 < oBar c l g u) : ∃ p, g = barCell p := by
  induction l with
  | nil => exact absurd h (Nat.lt_irrefl 0)
  | cons r l ih =>
    rw [oBar_cons, Pi.add_apply, Finsupp.add_apply, tallyAt_apply] at h
    by_cases hg : g = barCell (pr c r) ∧ u = ()
    · exact ⟨_, hg.1⟩
    · rw [if_neg hg] at h; exact ih h
theorem O₀_pos {c : Dev nD} {g : GSem nD τ sig} {u : Unit} (h : 0 < O₀ c g u) : (∃ p, g = recvCell p c) ∨ ∃ p, g = barCell p := by
  unfold O₀ at h
  rw [Pi.add_apply, Finsupp.add_apply] at h
  rcases Nat.eq_zero_or_pos (oRecv c offs g u) with h0 | h0
  · rw [h0, Nat.zero_add] at h; exact .inr (oBar_pos h)
  · exact .inl (oRecv_pos h0)

omit [FloatOps F] in
/-- A wait on a semaphore that is neither a barrier nor a receive semaphore may happen while everything is owed. -/
theorem mayWait_stage (c : Dev nD) (q : DmaSem sig) (hq : q.val < 23) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by rw [Finset.mem_singleton.mp hp]; dsimp only [lv]; rw [if_pos hq])
      (fun g u hg => by
        rcases O₀_pos hg with ⟨p, rfl⟩ | ⟨p, rfl⟩
        · rw [lv_recv]; decide
        · rw [lv_bar]; decide)
  · rw [MayWait_zero]; iintro -; iempintro

omit [FloatOps F] in
/-- At its barrier wait a device owes receive cells only, which are above barrier cells. -/
theorem mayWait_bar (c : Dev nD) (l : List (Fin 15)) :
    (levAts L lv : sProp 𝕄) ⊢ MayWait (c : Thread nD τ) (.reg barS) () (oRecv c l) :=
  MayOwe.of_cut (L := L) (lev := lv) 1 (fun p hp => by rw [Finset.mem_singleton.mp hp, L_tc]; exact Finset.mem_singleton_self _)
    (fun g u hg => by obtain ⟨p, rfl⟩ := oRecv_pos hg; exact Finset.mem_singleton_self _)
    (fun p hp => by rw [Finset.mem_singleton.mp hp]; rfl)
    (fun g u hg => by obtain ⟨p, rfl⟩ := oRecv_pos hg; rw [lv_recv]; decide)

end Cert.Gather
-- ==== Proof.Steps.lean ====
/-
The stretches of the script, each from what it needs to what it leaves.
-/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- A device's cells under the protocol: its barrier, its send cells, its receive cells. -/
abbrev Kx : Type := Unit ⊕ (Dev nD ⊕ Dev nD)
abbrev csem : Kx → SemLoc sig | .inl _ => .reg barS | .inr (.inl p) => .dma (ssem p) | .inr (.inr s) => .dma (rsem s)
abbrev kcell (ck : Dev nD × Kx) : GSem nD τ sig := ((ck.1 : Thread nD τ), csem ck.2)

/-- Every cell's invariant, that every cell is at round 0, and the levels. -/
def records (K : Dev nD × Kx → ℕ) : sProp 𝕄 :=
  iprop((bigSep Finset.univ fun ck : Dev nD × Kx => cellInv ER (gatherRd m ρ) (K ck) (kcell ck))
    ∗ (bigSep Finset.univ fun ck : Dev nD × Kx => reached ER (kcell ck) 0) ∗ levAts L lv)

instance records_persistent (K : Dev nD × Kx → ℕ) : BI.Persistent (records m ρ K) := by unfold records; infer_instance

variable (K : Dev nD × Kx → ℕ)

theorem rec_inv (ck : Dev nD × Kx) : records m ρ K ⊢ cellInv ER (gatherRd m ρ) (K ck) (kcell ck) := by
  have h : (bigSep Finset.univ fun ck : Dev nD × Kx => (cellInv ER (gatherRd m ρ) (K ck) (kcell ck) : sProp 𝕄)) ⊢ cellInv ER (gatherRd m ρ) (K ck) (kcell ck) :=
    bigSep_elim (Finset.mem_univ ck)
  unfold records; iintro ⟨H, -, -⟩
  iapply h $$ H
theorem rec_reached (ck : Dev nD × Kx) : records m ρ K ⊢ reached ER (kcell ck) 0 := by
  have h : (bigSep Finset.univ fun ck : Dev nD × Kx => (reached ER (kcell ck) 0 : sProp 𝕄)) ⊢ reached ER (kcell ck) 0 :=
    bigSep_elim (Finset.mem_univ ck)
  unfold records; iintro ⟨-, H, -⟩
  iapply h $$ H
/-- A device waits at its barrier cell while it owes nothing but receive cells. -/
theorem rec_mayWait (c : Dev nD) : records m ρ K ⊢ MayWait (c : Thread nD τ) (.reg barS) () (oRecv c offs) := by
  unfold records; iintro ⟨-, -, H⟩
  iapply (mayWait_bar c offs) $$ H

/-! ## Stretches -/

/-- The stretch `f` on device `c` turns `A` into `B`. -/
def Seg (c : Dev nD) (A B : sProp 𝕄) (f : P F → P F) : Prop :=
  ∀ (k : P F) (Q : PUnit → sProp 𝕄), iprop(records m ρ K ∗ A)
    ⊢ iprop((B -∗ wp frame (wpE (defs₀ (F := F)) 𝒱₀ (c : Thread nD τ) none) Set.univ k Q)
        -∗ wp frame (wpE (defs₀ (F := F)) 𝒱₀ (c : Thread nD τ) none) Set.univ (f k) Q)

variable {m ρ K}

/-- One stretch after another. -/
theorem Seg.comp {c : Dev nD} {A B C : sProp 𝕄} {f g : P F → P F} (hf : Seg m ρ K c A B f) (hg : Seg m ρ K c B C g) :
    Seg m ρ K c A C (fun k => f (g k)) := by
  intro k Q
  iintro ⟨#HR, HA⟩ Hk
  iapply (hf (g k) Q) $$ [HA]
  · isplitr; · iexact HR
    iexact HA
  iintro HB
  iapply (hg k Q) $$ [HB]
  · isplitr; · iexact HR
    iexact HB
  iexact Hk

/-- A stretch beside what it does not touch. -/
theorem Seg.frame {c : Dev nD} {A B : sProp 𝕄} {f : P F → P F} (hf : Seg m ρ K c A B f) (R : sProp 𝕄) :
    Seg m ρ K c iprop(A ∗ R) iprop(B ∗ R) f := by
  intro k Q
  iintro ⟨#HR, HA, HF⟩ Hk
  iapply (hf k Q) $$ [HA]
  · isplitr; · iexact HR
    iexact HA
  iintro HB
  iapply Hk
  isplitl [HB] <;> iassumption

/-- A stretch from more, to less. -/
theorem Seg.conseq {c : Dev nD} {A A' B B' : sProp 𝕄} {f : P F → P F} (hA : A' ⊢ A) (hf : Seg m ρ K c A B f) (hB : B ⊢ B') :
    Seg m ρ K c A' B' f := by
  intro k Q
  iintro ⟨#HR, HA⟩ Hk
  iapply (hf k Q) $$ [HA]
  · isplitr; · iexact HR
    iapply hA $$ HA
  iintro HB
  iapply Hk
  iapply hB $$ HB

/-- A stretch repeated along a list: each repetition turns its own `A r` into `B r` beside what they share,
    which may depend on how much of the list is left. -/
theorem Seg.each {c : Dev nD} {A B : Fin 15 → sProp 𝕄} {S : List (Fin 15) → sProp 𝕄} {f : Fin 15 → P F → P F}
    (h : ∀ r l, Seg m ρ K c iprop(A r ∗ S (r :: l)) iprop(B r ∗ S l) (f r)) (l : List (Fin 15)) :
    Seg m ρ K c iprop(bigSepL l A ∗ S l) iprop(bigSepL l B ∗ S []) (each f l) := by
  induction l with
  | nil =>
    intro k Q
    rw [bigSepL_nil, bigSepL_nil]
    iintro ⟨#HR, HA⟩ Hk
    iapply Hk $$ HA
  | cons r l ih =>
    intro k Q
    rw [bigSepL_cons', bigSepL_cons']
    iintro ⟨#HR, ⟨HA, HAs⟩, HS⟩ Hk
    iapply (h r l (Cert.Gather.each f l k) Q) $$ [HA HS]
    · isplitr; · iexact HR
      isplitl [HA] <;> iassumption
    iintro ⟨HB, HS⟩
    iapply (ih k Q) $$ [HAs HS]
    · isplitr; · iexact HR
      isplitl [HAs] <;> iassumption
    iintro ⟨HBs, HS⟩
    iapply Hk
    isplitr [HS]
    · isplitl [HB] <;> iassumption
    · iexact HS

/-! ## The entry signals -/

theorem signal_seg (c : Dev nD) (O : CellTallies nD τ sig Unit) (Wt : Waits sig Unit) :
    Seg m ρ K c
      iprop((bigSepL offs fun r => iprop(gFree c (pr c r) ∗ dutyTok ER (barCell (pr c r)) 0 c)) ∗ owes (c : Thread nD τ) (O + oBar c offs) Wt)
      iprop((bigSepL offs fun r => iprop(emp)) ∗ owes (c : Thread nD τ) (O + oBar c []) Wt)
      (each (signalOp c) offs) := by
  refine Seg.each (A := fun r => iprop(gFree c (pr c r) ∗ dutyTok ER (barCell (pr c r)) 0 c)) (B := fun _ => iprop(emp))
    (S := fun l => owes (c : Thread nD τ) (O + oBar c l) Wt) (fun r l k Q => ?_) offs
  have hO : O + oBar c (r :: l) = O + oBar c l + tallyAt ((pr c r : Thread nD τ), SemLoc.reg barS) () (1#32).toNat := by
    rw [oBar_cons, ← add_assoc]; rfl
  rw [signalOp_eq]
  iintro ⟨#HR, ⟨Hg, Ht⟩, HO⟩ Hk
  iapply (Rounds.wp_signal 𝒱₀ ER (gatherRd m ρ) (c : Thread nD τ) none (dst := (pr c r : Thread nD τ)) (κ := K (pr c r, .inl ()))
      (d := c) (by rw [duties_bar]; exact Finset.mem_erase.mpr ⟨(pr_ne c r).symm, Finset.mem_univ _⟩) ((amount_bar m ρ (pr c r) c).trans (by decide)) ()
      (O + oBar c l) hO) $$ [HO Ht Hg]
  · isplitr; · iapply (rec_inv m ρ K (pr c r, .inl ())) $$ HR
    isplitl [HO]; · iexact HO
    isplitl [Ht]; · iexact Ht
    isplitl [Hg]; · rw [payload_bar]; iexact Hg
    iapply (rec_reached m ρ K (pr c r, .inl ())) $$ HR
  iintro HO
  iapply Hk
  isplitr; · iempintro
  iexact HO

/-! ## The barrier wait -/

theorem barWait_seg (c : Dev nD) (Wt : Waits sig Unit) :
    Seg m ρ K c
      iprop(cred (tallyAt (barCell c) () 15) ∗ atPos ER (barCell c) 0 ∅ 0 ∗ owes (c : Thread nD τ) (oRecv c offs) Wt)
      iprop(semVal (barCell c) 0 ∗ (bigSepL offs fun r => gFree (pr c r) c) ∗ owes (c : Thread nD τ) (oRecv c offs) (insert (SemLoc.reg barS, ()) Wt))
      (fun k => Prog.op (.semWait barS (15#32).toInt) fun _ => k) := by
  intro k Q
  iintro ⟨#HR, HC, Hat, HO⟩ Hk
  iapply (Rounds.wp_wait_rest_token 𝒱₀ ER (gatherRd m ρ) (c : Thread nD τ) none (κ := K (c, .inl ()))
      (wpE_semWait_eq 𝒱₀ (c : Thread nD τ) none Set.univ) (Set.mem_univ _) () (O := oRecv c offs) (W := Wt) (R := 0) (m := 0) (T := ∅)
      (by rw [expect_bar]; decide)) $$ [HC HO Hat]
  · isplitr; · iapply (rec_inv m ρ K (c, .inl ())) $$ HR
    isplitl [HC]; · iexact HC
    isplitl [HO]; · iexact HO
    isplitr; · iapply (rec_mayWait m ρ K c) $$ HR
    iexact Hat
  iintro ⟨HO, Hat, -, Hpay⟩
  ihave Hp := (Entails.of_eq (rest_bar m ρ c)) $$ Hpay
  imod (Rounds.cell_close ER (gatherRd m ρ) (Set.mem_univ (K (c, .inl ()))) (fun h => h) (R := 0 + 1) (duties_later m ρ (barCell c))) $$ [Hat] with Hz
  · isplitr; · iapply (rec_inv m ρ K (c, .inl ())) $$ HR
    iexact Hat
  iapply Hk
  isplitl [Hz]; · iexact Hz
  isplitl [Hp] <;> iassumption

/-! ## The remote copies -/

theorem send_seg (c : Dev nD) (Wt : Waits sig Unit) :
    Seg m ρ K c
      iprop((bigSepL offs fun r => iprop(ySrc m ρ c (pr c r) ∗ gFree (pr c r) c ∗ dutyTok ER (sendCell c (pr c r)) 0 c ∗ dutyTok ER (recvCell (pr c r) c) 0 c))
        ∗ owes (c : Thread nD τ) (oRecv c offs) Wt)
      iprop((bigSepL offs fun r => cred (tallyAt (sendCell c (pr c r)) () N)) ∗ owes (c : Thread nD τ) (oRecv c []) Wt)
      (each (sendOp c) offs) := by
  refine Seg.each (A := fun r => iprop(ySrc m ρ c (pr c r) ∗ gFree (pr c r) c ∗ dutyTok ER (sendCell c (pr c r)) 0 c ∗ dutyTok ER (recvCell (pr c r) c) 0 c))
    (B := fun r => cred (tallyAt (sendCell c (pr c r)) () N))
    (S := fun l => owes (c : Thread nD τ) (oRecv c l) Wt) (fun r l k Q => ?_) offs
  rw [sendOp_eq]
  unfold ySrc gFree
  iintro ⟨#HR, ⟨Hy, ⟨%fd, Hg⟩, HtS, HtV⟩, HO⟩ Hk
  iapply (Rounds.wp_send_pointsTo 𝒱₀ ER (gatherRd m ρ) (c : Thread nD τ) none (κ₁ := K (c, .inr (.inl (pr c r)))) (κ₂ := K (pr c r, .inr (.inr c)))
    (r₁ := 0) (r₂ := 0) (d₁ := c) (d₂ := c) (fd := fd)
    (by rw [duties_send _ _ _ _ (pr_ne c r)]; exact Finset.mem_singleton_self _) (by rw [duties_recv _ _ _ _ (pr_ne c r).symm]; exact Finset.mem_singleton_self _)
    () () N rfl (amount_send m ρ c (pr c r) c) (amount_recv m ρ (pr c r) c c) (oRecv c l) (oRecv_cons c r l) (W := Wt)
    (by rw [payload_send]; exact BI.Entails.refl _)
    (by
      rw [payload_recv]; unfold gGot owns
      iintro H
      iexists _
      isplitr [H]
      rotate_left
      · iexact H
      · ipureintro; rw [View.read_write_univ]; rfl)) $$ [Hy Hg HO HtS HtV]
  · isplitr; · iapply (rec_inv m ρ K (c, .inr (.inl (pr c r)))) $$ HR
    isplitr; · iapply (rec_inv m ρ K (pr c r, .inr (.inr c))) $$ HR
    isplitl [Hy]; · iexact Hy
    isplitl [Hg]; · iexact Hg
    isplitl [HO]; · iexact HO
    isplitl [HtS]; · iexact HtS
    isplitr; · iapply (rec_reached m ρ K (c, .inr (.inl (pr c r)))) $$ HR
    isplitl [HtV]; · iexact HtV
    iapply (rec_reached m ρ K (pr c r, .inr (.inr c))) $$ HR
  iintro ⟨HC, HO⟩
  iapply Hk
  isplitl [HC] <;> iassumption

/-- What a device that owes nothing holds of its debts: none, whatever it has waited for. -/
def clear (c : Dev nD) : sProp 𝕄 := iprop(∃ Wt : Waits sig Unit, owes (c : Thread nD τ) 0 Wt)

theorem sendWait_seg (c : Dev nD) :
    Seg m ρ K c
      iprop((bigSepL offs fun r => iprop(cred (tallyAt (sendCell c (pr c r)) () N) ∗ atPos ER (sendCell c (pr c r)) 0 ∅ 0)) ∗ clear c)
      iprop((bigSepL offs fun r => iprop(ySrc m ρ c (pr c r) ∗ semVal (sendCell c (pr c r)) 0)) ∗ clear c)
      (each (sendWaitOp c) offs) := by
  refine Seg.each (A := fun r => iprop(cred (tallyAt (sendCell c (pr c r)) () N) ∗ atPos ER (sendCell c (pr c r)) 0 ∅ 0))
    (B := fun r => iprop(ySrc m ρ c (pr c r) ∗ semVal (sendCell c (pr c r)) 0)) (S := fun _ => clear c) (fun r l k Q => ?_) offs
  rw [sendWaitOp_eq]
  unfold clear
  iintro ⟨#HR, ⟨HC, Hat⟩, ⟨%Wt, HO⟩⟩ Hk
  iapply (Rounds.wp_wait_rest_token 𝒱₀ ER (gatherRd m ρ) (c : Thread nD τ) none (κ := K (c, .inr (.inl (pr c r))))
      (wpE_waitDma2_eq 𝒱₀ (c : Thread nD τ) none Set.univ) (Set.mem_univ _) () (O := 0) (W := Wt) (R := 0) (m := 0) (T := ∅)
      (by rw [Nat.zero_add, expect_send _ _ _ _ (pr_ne c r)])) $$ [HC HO Hat]
  · isplitr; · iapply (rec_inv m ρ K (c, .inr (.inl (pr c r)))) $$ HR
    isplitl [HC]; · iexact HC
    isplitl [HO]; · iexact HO
    isplitr; · rw [MayWait_zero]; iempintro
    iexact Hat
  iintro ⟨HO, Hat, -, Hpay⟩
  ihave Hp := (Entails.of_eq (rest_send m ρ c (pr c r) (pr_ne c r))) $$ Hpay
  imod (Rounds.cell_close ER (gatherRd m ρ) (Set.mem_univ (K (c, .inr (.inl (pr c r))))) (fun h => h) (R := 0 + 1) (duties_later m ρ (sendCell c (pr c r)))) $$ [Hat] with Hz
  · isplitr; · iapply (rec_inv m ρ K (c, .inr (.inl (pr c r)))) $$ HR
    iexact Hat
  iapply Hk
  isplitr [HO]
  · isplitl [Hp] <;> iassumption
  · iexists _; iexact HO

theorem recvWait_seg (c : Dev nD) (r : Fin 15) :
    Seg m ρ K c
      iprop((cred (tallyAt (recvCell c (pr c r)) () N) ∗ atPos ER (recvCell c (pr c r)) 0 ∅ 0) ∗ clear c)
      iprop((gGot m ρ c (pr c r) ∗ semVal (recvCell c (pr c r)) 0) ∗ clear c)
      (recvWaitOp c r) := by
  intro k Q
  rw [recvWaitOp_eq]
  unfold clear
  iintro ⟨#HR, ⟨HC, Hat⟩, ⟨%Wt, HO⟩⟩ Hk
  iapply (Rounds.wp_wait_rest_token 𝒱₀ ER (gatherRd m ρ) (c : Thread nD τ) none (κ := K (c, .inr (.inr (pr c r))))
      (wpE_waitDma2_eq 𝒱₀ (c : Thread nD τ) none Set.univ) (Set.mem_univ _) () (O := 0) (W := Wt) (R := 0) (m := 0) (T := ∅)
      (by rw [Nat.zero_add, expect_recv _ _ _ _ (pr_ne c r)])) $$ [HC HO Hat]
  · isplitr; · iapply (rec_inv m ρ K (c, .inr (.inr (pr c r)))) $$ HR
    isplitl [HC]; · iexact HC
    isplitl [HO]; · iexact HO
    isplitr; · rw [MayWait_zero]; iempintro
    iexact Hat
  iintro ⟨HO, Hat, -, Hpay⟩
  ihave Hp := (Entails.of_eq (rest_recv m ρ c (pr c r) (pr_ne c r))) $$ Hpay
  imod (Rounds.cell_close ER (gatherRd m ρ) (Set.mem_univ (K (c, .inr (.inr (pr c r))))) (fun h => h) (R := 0 + 1) (duties_later m ρ (recvCell c (pr c r)))) $$ [Hat] with Hz
  · isplitr; · iapply (rec_inv m ρ K (c, .inr (.inr (pr c r)))) $$ HR
    iexact Hat
  iapply Hk
  isplitr [HO]
  · isplitl [Hp] <;> iassumption
  · iexists _; iexact HO

end Cert.Gather
-- ==== Proof.Work.lean ====
/-
The weight fetches and the arithmetic of the kernel body.
-/
module

public import proofs.«01_k».proof.Proof.Steps
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The slots of the weight buffer -/

/-- Each slot's share of the weights. -/
def qs (k : Fin 3) : PosShare TreeShare := match k with | 0 => fullShare.left | 1 => fullShare.right.left | 2 => fullShare.right.right

abbrev fCell (c : Dev nD) (k : Fin 3) : GSem nD τ sig := ((c : Thread nD τ), .dma (fsem k))

/-- A slot nothing is being fetched into. -/
def idle (c : Dev nD) (k : Fin 3) : sProp 𝕄 :=
  iprop((∃ f : Buf (Elt F) ((slotM k).view.loc (c : Thread nD τ)), (slotM k).view.loc (c : Thread nD τ) ↦[(slotM k).view.set]{fullShare} f)
    ∗ (((c : Thread nD τ).loc main_arg1) ↦{qs k} wbuf m ρ c) ∗ semVal (fCell c k) 0)
/-- A slot device `c`'s weights at `p`'s rows are being fetched into. -/
def inflight (c : Dev nD) (k : Fin 3) (p : Dev nD) : sProp 𝕄 :=
  iprop(Transfers.Flight EC (c : Thread nD τ) (.dma (fsem k)) () (slotM k).view.dmaCredit
      iprop(owns (c : Thread nD τ) (slotM k) fullShare (W m ρ c p) ∗ ((wB p).view.loc (c : Thread nD τ) ↦[(wB p).view.set]{qs k} wbuf m ρ c))
    ∗ ((wB p).view.loc (c : Thread nD τ) ↦[Finset.univ \ (wB p).view.set]{qs k} wbuf m ρ c))
/-- A slot holding device `c`'s weights at `p`'s rows. -/
def full (c : Dev nD) (k : Fin 3) (p : Dev nD) : sProp 𝕄 :=
  iprop(owns (c : Thread nD τ) (slotM k) fullShare (W m ρ c p)
    ∗ (((c : Thread nD τ).loc main_arg1) ↦{qs k} wbuf m ρ c) ∗ semVal (fCell c k) 0)

theorem full_idle (c : Dev nD) (k : Fin 3) (p : Dev nD) : full m ρ c k p ⊢ idle m ρ c k := by
  unfold full idle owns
  iintro ⟨⟨%f, %hf, Hf⟩, H⟩
  isplitl [Hf]; · iexists f; iexact Hf
  iexact H

variable {m ρ} {K : Dev nD × Kx → ℕ}

theorem fetch_seg (c : Dev nD) (r : Fin 16) (k : Fin 3) :
    Seg m ρ K c (idle m ρ c k) (inflight m ρ c k (peer c r)) (fetchOp c r k) := by
  intro kt Q
  rw [fetchOp_eq]
  unfold idle inflight
  iintro ⟨#HR, ⟨%f, Hf⟩, Hw, Hv⟩ Hk
  ihave Hw' := (pointsTo_split_subset (ℓ := (wB (peer c r)).view.loc (c : Thread nD τ)) (Finset.subset_univ (wB (peer c r)).view.set)).1 $$ Hw
  icases Hw' with ⟨Hw, Hrest⟩
  iapply (Transfers.wp_dmaLocal EC 𝒱₀ (c : Thread nD τ) none () (slotM k).view.dmaCredit rfl (View.dmaCredit_pos _ (by decide)) (Finset.Subset.refl _)) $$ [Hf Hw Hv]
  · isplitl [Hw]; · iexact Hw
    isplitl [Hf]; · iexact Hf
    iexact Hv
  iintro HF
  iapply Hk
  isplitl [HF]
  · iapply (Transfers.Flight_mono EC (c : Thread nD τ) (by
      iintro ⟨Hd, Hs⟩
      isplitl [Hd]
      · unfold owns
        iexists _
        isplitr [Hd]
        rotate_left
        · iexact Hd
        · ipureintro; rw [View.read_write_univ]; rfl
      · iexact Hs)) $$ HF
  · iexact Hrest

theorem fetchWait_seg (c : Dev nD) (r : Fin 16) (k : Fin 3) :
    Seg m ρ K c iprop(inflight m ρ c k (peer c r) ∗ clear c) iprop(full m ρ c k (peer c r) ∗ clear c) (fetchWaitOp c r k) := by
  intro kt Q
  rw [fetchWaitOp_eq]
  unfold inflight full clear
  iintro ⟨#HR, ⟨HF, Hrest⟩, ⟨%Wt, HO⟩⟩ Hk
  iapply (Transfers.wp_waitLocal EC 𝒱₀ (c : Thread nD τ) none () rfl) $$ [HF HO]
  · isplitl [HF] <;> iassumption
  iintro ⟨⟨Hs, Hw⟩, Hv, HO⟩
  iapply Hk
  isplitr [HO]
  · isplitl [Hs]; · iexact Hs
    isplitl [Hw Hrest]
    · iapply (pointsTo_split_subset (ℓ := (wB (peer c r)).view.loc (c : Thread nD τ)) (Finset.subset_univ (wB (peer c r)).view.set)).2
      isplitl [Hw] <;> iassumption
    iexact Hv
  · iexists _; iexact HO

/-! ## The arithmetic -/

/-- The product of two blocks. -/
def mul (a : FVec F S256x256 .fp8e4m3) (w : FVec F S256x8192 .fp8e4m3) : FVec F S256x8192 .f32 :=
  matmul dot_S256x256_S256x8192_S256x8192_1_0_0_1_n_n none a w (constant S256x8192 .f32 0x00000000#32)

/-- The product of the block from the `n`-th peer and the weights at its rows. -/
def part (m : (ℓ : Loc nD τ sig) → Buf (Elt F) ℓ) (ρ : Dev nD → PrngReg) (c : Dev nD) (n : ℕ) : FVec F S256x8192 .f32 :=
  mul (X m ρ (peer c ⟨n % 16, Nat.mod_lt _ (by decide)⟩) c) (W m ρ c (peer c ⟨n % 16, Nat.mod_lt _ (by decide)⟩))

/-- What the output buffer holds after the `n`-th product. -/
def acc (m : (ℓ : Loc nD τ sig) → Buf (Elt F) ℓ) (ρ : Dev nD → PrngReg) (c : Dev nD) : ℕ → FVec F S256x8192 .f32
  | 0 => part m ρ c 0
  | n + 1 => addf (acc m ρ c n) (part m ρ c (n + 1))

/-- The output buffer holding `f`. -/
def outPts (c : Dev nD) (f : (cc0_stg3_0 : Ref sig .tc).ty.Contents (Elt F)) : sProp 𝕄 := ((c : Thread nD τ).loc cc0_stg3_0) ↦{fullShare} f

theorem hz2 : (![0, 0] : Fin 2 → Nat) = fun _ => 0 := funext fun a => by fin_cases a <;> rfl

theorem loadOut_rule (c : Dev nD) (f : (cc0_stg3_0 : Ref sig .tc).ty.Contents (Elt F)) (k : Vec F S256x8192 .f32 → P F) (Q : PUnit → sProp 𝕄) :
    outPts c f ⊢ iprop((outPts c f -∗ wp frame (wpE (defs₀ (F := F)) 𝒱₀ (c : Thread nD τ) none) Set.univ (k f) Q)
      -∗ wp frame (wpE (defs₀ (F := F)) 𝒱₀ (c : Thread nD τ) none) Set.univ (loadOut k) Q) := by
  unfold outPts loadOut
  iintro H Hk
  iapply (wp_load 𝒱₀ (c : Thread nD τ) none Set.univ (m := oM) (Finset.subset_univ _)) $$ H
  iintro H
  rw [show oM.view.readAt (Elt F) rO.toLoadRect f = f from Memref.readAt_unit_zero (Elt F) cc0_stg3_0 hz2 _ f]
  iapply Hk; iexact H

theorem storeOut_rule (c : Dev nD) (f : (cc0_stg3_0 : Ref sig .tc).ty.Contents (Elt F)) (v : Vec F S256x8192 .f32) (k : P F) (Q : PUnit → sProp 𝕄) :
    outPts c f ⊢ iprop((outPts c v -∗ wp frame (wpE (defs₀ (F := F)) 𝒱₀ (c : Thread nD τ) none) Set.univ k Q)
      -∗ wp frame (wpE (defs₀ (F := F)) 𝒱₀ (c : Thread nD τ) none) Set.univ (storeOut v k) Q) := by
  unfold outPts storeOut
  iintro H Hk
  iapply (wp_store 𝒱₀ (c : Thread nD τ) none Set.univ (m := oM) (r := rO) (Mk := Finset.univ) (Finset.subset_univ _)) $$ H
  iintro H
  rw [show ((oM : Memref sig .tc .vmem S256x8192 .f32).access rO : View sig .tc _ _ _).write (Elt F) f v Finset.univ = v from
    Memref.write_access_unit_zero_univ (Elt F) cc0_stg3_0 hz2 _ f v]
  iapply Hk; iexact H

theorem blocks_rule (c : Dev nD) (r : Fin 16) (k : Fin 3) (kt : Vec F S256x256 .fp8e4m3 → Vec F S1x256x8192 .fp8e4m3 → P F) (Q : PUnit → sProp 𝕄) :
    iprop(gGot m ρ c (peer c r) ∗ full m ρ c k (peer c r)) ⊢
      iprop((∀ b, ⌜shapeCast S256x8192 b shapeCasts_S1x256x8192_S256x8192 = W m ρ c (peer c r)⌝ -∗ (gGot m ρ c (peer c r) ∗ full m ρ c k (peer c r))
          -∗ wp frame (wpE (defs₀ (F := F)) 𝒱₀ (c : Thread nD τ) none) Set.univ (kt (X m ρ (peer c r) c) b) Q)
        -∗ wp frame (wpE (defs₀ (F := F)) 𝒱₀ (c : Thread nD τ) none) Set.univ (blocksOp c r k kt) Q) := by
  rw [blocksOp_eq]
  unfold gGot full owns
  iintro ⟨⟨%f, %hf, Hg⟩, ⟨%w, %hw, Hs⟩, Hr⟩ Hk
  iapply (wp_load_rect 𝒱₀ (c : Thread nD τ) none Set.univ (m := gM) (r := gC (peer c r)) (S := (gB (peer c r)).view.set) (Finset.Subset.refl _)) $$ Hg
  iintro Hg
  rw [show (gM.access (gC (peer c r))).read (Elt F) f = X m ρ (peer c r) c from hf]
  iapply (wp_load_rect 𝒱₀ (c : Thread nD τ) none Set.univ (m := vM) (r := rSlot k) (S := (slotM k).view.set)
    (by rw [slotM_set]; exact (View.set_slice_whole _ _).subset)) $$ Hs
  iintro Hs
  iapply Hk $$ %((vM.access (rSlot k)).read (Elt F) w) %hw
  isplitl [Hg]
  · iexists f; isplitr; · ipureintro; exact hf
    iexact Hg
  isplitl [Hs]
  · iexists w; isplitr; · ipureintro; exact hw
    iexact Hs
  iexact Hr

/-- The first product. -/
theorem first_seg (c : Dev nD) (k : Fin 3) (f) :
    Seg m ρ K c iprop((gGot m ρ c (peer c 0) ∗ full m ρ c k (peer c 0)) ∗ outPts c f)
      iprop((gGot m ρ c (peer c 0) ∗ full m ρ c k (peer c 0)) ∗ outPts c (acc m ρ c 0)) (firstOp c 0 k) := by
  intro kt Q
  unfold firstOp
  iintro ⟨#HR, Hb, Ho⟩ Hk
  iapply (blocks_rule (m := m) (ρ := ρ) c 0 k) $$ Hb
  iintro %b %hb Hb
  iapply (loadOut_rule c f) $$ Ho
  iintro Ho
  iapply (storeOut_rule c f) $$ Ho
  iintro Ho
  rw [show (k0_pay4 (X m ρ (peer c 0) c) b : FVec F S256x8192 .f32) = acc m ρ c 0 from congrArg (mul (X m ρ (peer c 0) c)) hb]
  iapply Hk
  isplitl [Hb] <;> iassumption

/-- A later product. -/
theorem add_seg (c : Dev nD) (r : Fin 15) (k : Fin 3) :
    Seg m ρ K c iprop((gGot m ρ c (pr c r) ∗ full m ρ c k (pr c r)) ∗ outPts c (acc m ρ c r.val))
      iprop((gGot m ρ c (pr c r) ∗ full m ρ c k (pr c r)) ∗ outPts c (acc m ρ c (r.val + 1))) (addOp c r.succ k) := by
  intro kt Q
  unfold addOp
  iintro ⟨#HR, Hb, Ho⟩ Hk
  iapply (blocks_rule (m := m) (ρ := ρ) c r.succ k) $$ Hb
  iintro %b %hb Hb
  iapply (loadOut_rule c _) $$ Ho
  iintro Ho
  iapply (loadOut_rule c _) $$ Ho
  iintro Ho
  iapply (storeOut_rule c _) $$ Ho
  iintro Ho
  rw [show (k0_pay5 (X m ρ (peer c r.succ) c) b (acc m ρ c r.val) : FVec F S256x8192 .f32) = acc m ρ c (r.val + 1) from by
    have hr : (⟨(r.val + 1) % 16, Nat.mod_lt _ (by decide)⟩ : Fin 16) = r.succ := Fin.ext (Nat.mod_eq_of_lt (by have := r.isLt; show r.val + 1 < 16; omega))
    show addf (shapeCast S256x8192 (acc m ρ c r.val) _) (mul _ _) = addf _ (part m ρ c (r.val + 1))
    rw [shapeCast_self, hb]; unfold part; rw [hr]]
  iapply Hk
  isplitl [Hb] <;> iassumption

/-- The send buffer holding the staged block of `x`. -/
theorem copy_seg (c : Dev nD) (f : (cc0_scratch0 : Ref sig .tc).ty.Contents (Elt F)) :
    Seg m ρ K c iprop((((c : Thread nD τ).loc cc0_stg0_0) ↦{fullShare} xstg m ρ c) ∗ (((c : Thread nD τ).loc cc0_scratch0) ↦{fullShare} f))
      iprop((((c : Thread nD τ).loc cc0_stg0_0) ↦{fullShare} xstg m ρ c) ∗ (((c : Thread nD τ).loc cc0_scratch0) ↦{fullShare} y8 m ρ c)) copyOp := by
  intro kt Q
  unfold copyOp
  iintro ⟨#HR, Hx, Hy⟩ Hk
  iapply (wp_load 𝒱₀ (c : Thread nD τ) none Set.univ (m := xM) (Finset.subset_univ _)) $$ Hx
  iintro Hx
  rw [show xM.view.readAt (Elt F) rX.toLoadRect (xstg m ρ c) = xstg m ρ c from Memref.readAt_unit_zero (Elt F) cc0_stg0_0 hz2 _ _]
  iapply (wp_load 𝒱₀ (c : Thread nD τ) none Set.univ (m := yM) (Finset.subset_univ _)) $$ Hy
  iintro Hy
  iapply (wp_store 𝒱₀ (c : Thread nD τ) none Set.univ (m := yM) (r := rX) (Mk := Finset.univ) (Finset.subset_univ _)) $$ Hy
  iintro Hy
  rw [show ((yM : Memref sig .tc .vmem S4096x256 .fp8e4m3).access rX : View sig .tc _ _ _).write (Elt F) f (k0_pay2 (xstg m ρ c)) Finset.univ = y8 m ρ c from
    Memref.write_access_unit_zero_univ (Elt F) cc0_scratch0 hz2 _ f _]
  iapply Hk
  isplitl [Hx] <;> iassumption

/-- The device's own block put into the gathered matrix. -/
theorem own_seg (c : Dev nD) :
    Seg m ρ K c iprop(ySrc m ρ c c ∗ gFree c c) iprop(ySrc m ρ c c ∗ gGot m ρ c c) (ownOp c) := by
  intro kt Q
  rw [ownOp_eq]
  unfold ySrc gFree gGot owns
  iintro ⟨#HR, Hy, ⟨%f, Hg⟩⟩ Hk
  iapply (wp_load_rect 𝒱₀ (c : Thread nD τ) none Set.univ (m := yM) (r := yR c) (S := (yB c).view.set) (Finset.Subset.refl _)) $$ Hy
  iintro Hy
  iapply (wp_load_rect 𝒱₀ (c : Thread nD τ) none Set.univ (m := gM) (r := gC c) (S := (gB c).view.set) (Finset.Subset.refl _)) $$ Hg
  iintro Hg
  iapply (wp_store 𝒱₀ (c : Thread nD τ) none Set.univ (m := gM) (r := gC c) (Mk := Finset.univ) (S := (gB c).view.set) (Finset.Subset.refl _)) $$ Hg
  iintro Hg
  iapply Hk
  isplitl [Hy]; · iexact Hy
  iexists _
  isplitr [Hg]
  rotate_left
  · iexact Hg
  · ipureintro
    refine (View.read_write_univ _ _).trans ?_
    exact shapeCast_self _ _

/-- The one index of a scale. -/
def s1 : S1.Idx := fun a => ⟨0, by fin_cases a; decide⟩
theorem idx_S1 (i : S1.Idx) : i = s1 := by
  funext a; fin_cases a
  have h : (i (0 : Fin 1)).val < 1 := (i (0 : Fin 1)).isLt
  exact Fin.ext (show (i (0 : Fin 1)).val = 0 by omega)

/-- The kernel's result on device `c`. -/
def outAt (m : (ℓ : Loc nD τ sig) → Buf (Elt F) ℓ) (ρ : Dev nD → PrngReg) (c : Dev nD) : (cc0_stg3_0 : Ref sig .tc).ty.Contents (Elt F) :=
  k0_pay1 (acc m ρ c 15) (sxstg m ρ c s1) (swstg m ρ c s1)

/-- The scale and the activation. -/
theorem finish_seg (c : Dev nD) :
    Seg m ρ K c iprop((((c : Thread nD τ).loc cc0_stg1_0) ↦{fullShare} sxstg m ρ c) ∗ (((c : Thread nD τ).loc cc0_stg2_0) ↦{fullShare} swstg m ρ c) ∗ outPts c (acc m ρ c 15))
      iprop((((c : Thread nD τ).loc cc0_stg1_0) ↦{fullShare} sxstg m ρ c) ∗ (((c : Thread nD τ).loc cc0_stg2_0) ↦{fullShare} swstg m ρ c) ∗ outPts c (outAt m ρ c)) finishOp := by
  intro kt Q
  unfold finishOp
  simp only [smemLoad, smemLoadElt, Prog.bind_op, Prog.bind_ret]
  iintro ⟨#HR, Hs, Ht, Ho⟩ Hk
  iapply (loadOut_rule c _) $$ Ho
  iintro Ho
  iapply (wp_load_rect 𝒱₀ (c : Thread nD τ) none Set.univ (m := sxM) (r := rS) (Finset.subset_univ _)) $$ Hs
  iintro Hs
  iapply (wp_load_rect 𝒱₀ (c : Thread nD τ) none Set.univ (m := swM) (r := rS) (Finset.subset_univ _)) $$ Ht
  iintro Ht
  iapply (loadOut_rule c _) $$ Ho
  iintro Ho
  iapply (storeOut_rule c _) $$ Ho
  iintro Ho
  rw [show ∀ i, (sxM.access rS).read (Elt F) (sxstg m ρ c) i = sxstg m ρ c s1 from fun i => congrArg (sxstg m ρ c) (idx_S1 _),
    show ∀ i, (swM.access rS).read (Elt F) (swstg m ρ c) i = swstg m ρ c s1 from fun i => congrArg (swstg m ρ c) (idx_S1 _)]
  iapply Hk
  isplitl [Hs]; · iexact Hs
  isplitl [Ht]; · iexact Ht
  unfold outAt; iexact Ho

/-! ## The steps of the gather -/

/-- The slot of the `d`-th block: its fetch in flight, or nothing once there is no such block. -/
def slot (m : (ℓ : Loc nD τ sig) → Buf (Elt F) ℓ) (ρ : Dev nD → PrngReg) (c : Dev nD) (d : ℕ) : sProp 𝕄 :=
  if h : d < 16 then inflight m ρ c ⟨d % 3, Nat.mod_lt _ (by decide)⟩ (peer c ⟨d, h⟩) else idle m ρ c ⟨d % 3, Nat.mod_lt _ (by decide)⟩

/-- Before the `n + 1`-st block is taken. -/
def stepSt (m : (ℓ : Loc nD τ sig) → Buf (Elt F) ℓ) (ρ : Dev nD → PrngReg) (c : Dev nD) (n : ℕ) : sProp 𝕄 :=
  iprop(slot m ρ c (n + 1) ∗ slot m ρ c (n + 2) ∗ slot m ρ c (n + 3) ∗ outPts c (acc m ρ c n) ∗ clear c)

/-- The fetch that ends a step, if there is one. -/
theorem refill_seg (c : Dev nD) (r : Fin 15) :
    Seg m ρ K c (full m ρ c ⟨(r.val + 1) % 3, Nat.mod_lt _ (by decide)⟩ (pr c r)) (slot m ρ c (r.val + 4))
      (fun kt => if h : r.val + 4 < 16 then fetchOp c ⟨r.val + 4, h⟩ ⟨(r.val + 1) % 3, Nat.mod_lt _ (by decide)⟩ kt else kt) := by
  have e : (⟨(r.val + 4) % 3, Nat.mod_lt _ (by decide)⟩ : Fin 3) = ⟨(r.val + 1) % 3, Nat.mod_lt _ (by decide)⟩ := Fin.ext (by show (r.val + 4) % 3 = (r.val + 1) % 3; omega)
  unfold slot
  by_cases h : r.val + 4 < 16
  · simp only [dif_pos h]; rw [e]
    exact Seg.conseq (full_idle m ρ c _ _) (fetch_seg c _ _) (BI.Entails.refl _)
  · simp only [dif_neg h]; rw [e]
    intro kt Q
    iintro ⟨#HR, H⟩ Hk
    iapply Hk
    iapply (full_idle m ρ c _ _) $$ H

/-- One step. -/
theorem step_seg (c : Dev nD) (r : Fin 15) :
    Seg m ρ K c
      iprop((cred (tallyAt (recvCell c (pr c r)) () N) ∗ atPos ER (recvCell c (pr c r)) 0 ∅ 0) ∗ stepSt m ρ c r.val)
      iprop((gGot m ρ c (pr c r) ∗ semVal (recvCell c (pr c r)) 0) ∗ stepSt m ρ c (r.val + 1))
      (stepOp c r) := by
  have hs : slot m ρ c (r.val + 1) = inflight m ρ c ⟨(r.val + 1) % 3, Nat.mod_lt _ (by decide)⟩ (pr c r) := by
    unfold slot; rw [dif_pos (by have := r.isLt; omega)]; rfl
  intro kt Q
  unfold stepSt stepOp
  rw [hs]
  iintro ⟨#HR, HA, H1, H2, H3, Ho, HO⟩ Hk
  iapply (recvWait_seg (m := m) (ρ := ρ) (K := K) c r _ Q) $$ [HA HO]
  · isplitr; · iexact HR
    isplitl [HA] <;> iassumption
  iintro ⟨⟨Hg, Hz⟩, HO⟩
  iapply (fetchWait_seg (m := m) (ρ := ρ) (K := K) c r.succ _ _ Q) $$ [H1 HO]
  · isplitr; · iexact HR
    isplitl [H1] <;> iassumption
  iintro ⟨H1, HO⟩
  iapply (add_seg (m := m) (ρ := ρ) (K := K) c r _ _ Q) $$ [Hg H1 Ho]
  · isplitr; · iexact HR
    isplitr [Ho]
    · isplitl [Hg] <;> iassumption
    · iexact Ho
  iintro ⟨⟨Hg, H1⟩, Ho⟩
  iapply (refill_seg (m := m) (ρ := ρ) (K := K) c r _ Q) $$ [H1]
  · isplitr; · iexact HR
    iexact H1
  iintro H4
  iapply Hk
  isplitl [Hg Hz]
  · isplitl [Hg] <;> iassumption
  isplitl [H2]; · iexact H2
  isplitl [H3]; · iexact H3
  isplitl [H4]; · iexact H4
  isplitl [Ho] <;> iassumption

/-- What the steps share when those in `l` are left. -/
def stepsLeft (m : (ℓ : Loc nD τ sig) → Buf (Elt F) ℓ) (ρ : Dev nD → PrngReg) (c : Dev nD) (l : List (Fin 15)) : sProp 𝕄 :=
  iprop(⌜l.length ≤ 15 ∧ l.map Fin.val = List.range' (15 - l.length) l.length⌝ ∗ stepSt m ρ c (15 - l.length))

theorem steps_seg (c : Dev nD) :
    Seg m ρ K c
      iprop((bigSepL offs fun r => iprop(cred (tallyAt (recvCell c (pr c r)) () N) ∗ atPos ER (recvCell c (pr c r)) 0 ∅ 0)) ∗ stepSt m ρ c 0)
      iprop((bigSepL offs fun r => iprop(gGot m ρ c (pr c r) ∗ semVal (recvCell c (pr c r)) 0)) ∗ stepSt m ρ c 15)
      (each (stepOp c) offs) := by
  refine Seg.conseq ?_ (Seg.each (A := fun r => iprop(cred (tallyAt (recvCell c (pr c r)) () N) ∗ atPos ER (recvCell c (pr c r)) 0 ∅ 0))
    (B := fun r => iprop(gGot m ρ c (pr c r) ∗ semVal (recvCell c (pr c r)) 0)) (S := stepsLeft m ρ c) (fun r l => ?_) offs) ?_
  · unfold stepsLeft
    iintro ⟨H, HS⟩
    isplitl [H]; · iexact H
    isplitr; · ipureintro; exact ⟨by decide, by decide⟩
    iexact HS
  · intro kt Q
    unfold stepsLeft
    iintro ⟨#HR, HA, %hl, HS⟩ Hk
    obtain ⟨hl, hm⟩ := hl
    rw [List.length_cons] at hl hm
    rw [List.map_cons, List.range'_succ, List.cons.injEq] at hm
    have e1 : 15 - (r :: l).length = r.val := by rw [List.length_cons]; exact hm.1.symm
    have e2 : 15 - l.length = r.val + 1 := by rw [hm.1]; omega
    rw [e1]
    iapply (step_seg (m := m) (ρ := ρ) (K := K) c r kt Q) $$ [HA HS]
    · isplitr; · iexact HR
      isplitl [HA] <;> iassumption
    iintro ⟨HB, HS⟩
    iapply Hk
    isplitl [HB]; · iexact HB
    rw [e2]
    isplitr
    · ipureintro
      refine ⟨by omega, ?_⟩
      rw [hm.2, hm.1]
    iexact HS
  · unfold stepsLeft
    iintro ⟨H, -, HS⟩
    isplitl [H]; · iexact H
    iexact HS

end Cert.Gather
-- ==== Proof.Body.lean ====
/-
The kernel body on one device, from what the launch deals it to what it leaves.
-/
module

public import proofs.«01_k».proof.Proof.Work
public import Idealize.ShloMosaic.Lib.Ring.WriteBehind
public import Idealize.ShloMosaic.Lib.Ring.Trips

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## Buffers and their pieces -/

/-- A list's separating conjunction of pairs is the pair of the conjunctions. -/
theorem bigSepL_pair {I : Type} (l : List I) (A B : I → sProp 𝕄) :
    bigSepL l (fun i => iprop(A i ∗ B i)) ⊣⊢ iprop(bigSepL l A ∗ bigSepL l B) := by
  constructor
  · induction l with
    | nil => rw [bigSepL_nil, bigSepL_nil, bigSepL_nil]; iintro -; isplitl <;> iempintro
    | cons i l ih =>
      rw [bigSepL_cons', bigSepL_cons', bigSepL_cons']
      iintro ⟨⟨Ha, Hb⟩, H⟩
      ihave H' := ih $$ H
      icases H' with ⟨HA, HB⟩
      isplitl [Ha HA]
      · isplitl [Ha] <;> iassumption
      · isplitl [Hb] <;> iassumption
  · induction l with
    | nil => rw [bigSepL_nil, bigSepL_nil, bigSepL_nil]; iintro -; iempintro
    | cons i l ih =>
      rw [bigSepL_cons', bigSepL_cons', bigSepL_cons']
      iintro ⟨⟨Ha, HA⟩, Hb, HB⟩
      isplitl [Ha Hb]
      · isplitl [Ha] <;> iassumption
      · iapply ih
        isplitl [HA] <;> iassumption

/-- The send buffer is its row blocks, one for each device. -/
theorem y_rows (c : Dev nD) : (((c : Thread nD τ).loc cc0_scratch0) ↦{fullShare} y8 m ρ c : sProp 𝕄) = bigSep Finset.univ (ySrc m ρ c) := by
  have h := pointsTo_biUnion (Ix := Unit) (Name := ℕ) (U := UU) (Lvl := ℕ) (ℓ := (c : Thread nD τ).loc cc0_scratch0) (q := fullShare) (f := y8 m ρ c)
    Finset.univ (fun p : Dev nD => (yR p).set) (fun p _ p' _ e => yR_disjoint e)
  rw [yR_cover] at h
  refine h.trans (bigSep_congr fun p _ => ?_)
  unfold ySrc; rw [yB_set]

omit [FloatOps F] in
/-- The gathered matrix is its column blocks, one for each device, each at some contents; -/
theorem g_split (c : Dev nD) : iprop(∃ f : Buf (Elt F) ((c : Thread nD τ).loc cc0_scratch1), ((c : Thread nD τ).loc cc0_scratch1) ↦{fullShare} f)
    ⊢ (bigSep Finset.univ fun p => gFree c p : sProp 𝕄) :=
  pieces_split (ℓ := (c : Thread nD τ).loc cc0_scratch1) (fun p : Dev nD => (gC p).set) (fun p p' e => gC_disjoint e) gC_cover
    (fun p f => ((gB p).view.loc (c : Thread nD τ) ↦[(gB p).view.set]{fullShare} f)) (fun p f => by rw [gB_set])
omit [FloatOps F] in
/-- and back. -/
theorem g_join (c : Dev nD) (f₀ : Buf (Elt F) ((c : Thread nD τ).loc cc0_scratch1)) :
    (bigSep Finset.univ fun p => gFree c p : sProp 𝕄)
      ⊢ iprop(∃ f : Buf (Elt F) ((c : Thread nD τ).loc cc0_scratch1), ((c : Thread nD τ).loc cc0_scratch1) ↦{fullShare} f) :=
  pieces_join (ℓ := (c : Thread nD τ).loc cc0_scratch1) (fun p : Dev nD => (gC p).set) (fun p p' e => gC_disjoint e) gC_cover
    (fun p f => ((gB p).view.loc (c : Thread nD τ) ↦[(gB p).view.set]{fullShare} f)) (fun p f => by rw [gB_set]) f₀

theorem gGot_free (c s : Dev nD) : gGot m ρ c s ⊢ gFree c s := by
  unfold gGot gFree owns
  iintro ⟨%f, -, H⟩
  iexists f; iexact H

/-- Slot `k` of the weight buffer, at some contents. -/
def slotFree (c : Dev nD) (k : Fin 3) : sProp 𝕄 :=
  iprop(∃ f : Buf (Elt F) ((slotM k).view.loc (c : Thread nD τ)), (slotM k).view.loc (c : Thread nD τ) ↦[(slotM k).view.set]{fullShare} f)

omit [FloatOps F] in
theorem v_split (c : Dev nD) : iprop(∃ f : Buf (Elt F) ((c : Thread nD τ).loc cc0_scratch2), ((c : Thread nD τ).loc cc0_scratch2) ↦{fullShare} f)
    ⊢ (bigSep Finset.univ fun k => slotFree c k : sProp 𝕄) :=
  pieces_split (ℓ := (c : Thread nD τ).loc cc0_scratch2) (fun k : Fin 3 => (rSlot k).set) (fun k k' e => rSlot_disjoint e) rSlot_cover
    (fun k f => ((slotM k).view.loc (c : Thread nD τ) ↦[(slotM k).view.set]{fullShare} f)) (fun k f => by rw [slotM_set])
omit [FloatOps F] in
theorem v_join (c : Dev nD) (f₀ : Buf (Elt F) ((c : Thread nD τ).loc cc0_scratch2)) :
    (bigSep Finset.univ fun k => slotFree c k : sProp 𝕄)
      ⊢ iprop(∃ f : Buf (Elt F) ((c : Thread nD τ).loc cc0_scratch2), ((c : Thread nD τ).loc cc0_scratch2) ↦{fullShare} f) :=
  pieces_join (ℓ := (c : Thread nD τ).loc cc0_scratch2) (fun k : Fin 3 => (rSlot k).set) (fun k k' e => rSlot_disjoint e) rSlot_cover
    (fun k f => ((slotM k).view.loc (c : Thread nD τ) ↦[(slotM k).view.set]{fullShare} f)) (fun k f => by rw [slotM_set]) f₀

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The weights whole, the weight buffer and its semaphores are three idle slots; -/
theorem idle_split (c : Dev nD) :
    iprop((((c : Thread nD τ).loc main_arg1) ↦{fullShare} wbuf m ρ c)
        ∗ (∃ f : Buf (Elt F) ((c : Thread nD τ).loc cc0_scratch2), ((c : Thread nD τ).loc cc0_scratch2) ↦{fullShare} f)
        ∗ (bigSep Finset.univ fun k => semVal (fCell c k) 0))
      ⊢ iprop(idle m ρ c 0 ∗ idle m ρ c 1 ∗ idle m ρ c 2) := by
  iintro ⟨Hw, Hv, Hs⟩
  ihave Hw' := (pointsTo_thirds (ℓ := (c : Thread nD τ).loc main_arg1) fullShare (wbuf m ρ c)).1 $$ Hw
  icases Hw' with ⟨Hw0, Hw1, Hw2⟩
  ihave Hv' := ((v_split c).trans (Entails.of_eq (bigSep_fin3 _))) $$ Hv
  icases Hv' with ⟨Hv0, Hv1, Hv2⟩
  ihave Hs' := (Entails.of_eq (bigSep_fin3 _)) $$ Hs
  icases Hs' with ⟨Hs0, Hs1, Hs2⟩
  unfold idle slotFree
  isplitl [Hw0 Hv0 Hs0]
  · isplitl [Hv0]; · iexact Hv0
    isplitl [Hw0]; · iexact Hw0
    iexact Hs0
  isplitl [Hw1 Hv1 Hs1]
  · isplitl [Hv1]; · iexact Hv1
    isplitl [Hw1]; · iexact Hw1
    iexact Hs1
  · isplitl [Hv2]; · iexact Hv2
    isplitl [Hw2]; · iexact Hw2
    iexact Hs2

/-- and three idle slots are those again. -/
theorem idle_join (c : Dev nD) :
    iprop(idle m ρ c 0 ∗ idle m ρ c 1 ∗ idle m ρ c 2)
      ⊢ iprop((((c : Thread nD τ).loc main_arg1) ↦{fullShare} wbuf m ρ c)
        ∗ (∃ f : Buf (Elt F) ((c : Thread nD τ).loc cc0_scratch2), ((c : Thread nD τ).loc cc0_scratch2) ↦{fullShare} f)
        ∗ (bigSep Finset.univ fun k => semVal (fCell c k) 0)) := by
  unfold idle
  iintro ⟨⟨⟨%f, Hv0⟩, Hw0, Hs0⟩, ⟨Hv1, Hw1, Hs1⟩, ⟨Hv2, Hw2, Hs2⟩⟩
  isplitl [Hw0 Hw1 Hw2]
  · iapply (pointsTo_thirds (ℓ := (c : Thread nD τ).loc main_arg1) fullShare (wbuf m ρ c)).2
    isplitl [Hw0]; · iexact Hw0
    isplitl [Hw1]; · iexact Hw1
    iexact Hw2
  isplitl [Hv0 Hv1 Hv2]
  · iapply ((Entails.of_eq (bigSep_fin3 (fun k => slotFree c k)).symm).trans (v_join c f))
    unfold slotFree
    isplitl [Hv0]; · iexists f; iexact Hv0
    isplitl [Hv1]; · iexact Hv1
    iexact Hv2
  · iapply (Entails.of_eq (bigSep_fin3 (fun k => semVal (fCell c k) 0)).symm)
    isplitl [Hs0]; · iexact Hs0
    isplitl [Hs1]; · iexact Hs1
    iexact Hs2

/-! ## What a device starts from and ends with -/

/-- The positions and tokens device `c` holds: at its own cells its positions, at the cells it pays its tokens. -/
def linear (c : Dev nD) : sProp 𝕄 :=
  iprop(atPos ER (barCell c) 0 ∅ 0
    ∗ (bigSep Finset.univ fun p => atPos ER (sendCell c p) 0 ∅ 0) ∗ (bigSep Finset.univ fun s => atPos ER (recvCell c s) 0 ∅ 0)
    ∗ (bigSep Finset.univ fun p => dutyTok ER (barCell p) 0 c)
    ∗ (bigSep Finset.univ fun p => dutyTok ER (sendCell c p) 0 c)
    ∗ (bigSep Finset.univ fun p => dutyTok ER (recvCell p c) 0 c))

/-- What the launch's step over all devices deals device `c`. -/
def ghost (K : Dev nD × Kx → ℕ) (c : Dev nD) : sProp 𝕄 :=
  iprop(records m ρ K ∗ linear c ∗ (bigSep Finset.univ fun k => semVal (fCell c k) 0))

/-- The credit device `c` starts with: its barrier cell's, and each receive cell's. -/
def credits (c : Dev nD) : sProp 𝕄 :=
  iprop(cred (tallyAt (barCell c) () 15) ∗ bigSepL offs fun r => cred (tallyAt (recvCell c (pr c r)) () N))

abbrev wPts (c : Dev nD) : sProp 𝕄 := ((c : Thread nD τ).loc main_arg1) ↦{fullShare} wbuf m ρ c
abbrev anyPts (c : Dev nD) (b : Ref sig .tc) : sProp 𝕄 :=
  iprop(∃ f : Buf (Elt F) ((c : Thread nD τ).loc b), ((c : Thread nD τ).loc b) ↦{fullShare} f)
abbrev scratch (c : Dev nD) : sProp 𝕄 := iprop(anyPts c cc0_scratch0 ∗ anyPts c cc0_scratch1 ∗ anyPts c cc0_scratch2)

def Φ₀ (c : Dev nD) : sProp 𝕄 := iprop(((∃ K, ghost m ρ K c) ∗ credits c ∗ wPts m ρ c) ∗ scratch c)
def Φ₁ (c : Dev nD) : sProp 𝕄 :=
  iprop(wPts m ρ c ∗ scratch c ∗ semVal (barCell c) 0 ∗ (bigSep Finset.univ fun k => semVal (fCell c k) 0)
    ∗ (bigSep Finset.univ fun p => semVal (sendCell c p) 0) ∗ (bigSep Finset.univ fun s => semVal (recvCell c s) 0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxstg m ρ c
    | ⟨2, _⟩ => swstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

/-- The four staged blocks, the result at `f`. -/
def staged (c : Dev nD) (f : (cc0_stg3_0 : Ref sig .tc).ty.Contents (Elt F)) : sProp 𝕄 :=
  iprop((((c : Thread nD τ).loc cc0_stg0_0) ↦{fullShare} xstg m ρ c) ∗ (((c : Thread nD τ).loc cc0_stg1_0) ↦{fullShare} sxstg m ρ c)
    ∗ (((c : Thread nD τ).loc cc0_stg2_0) ↦{fullShare} swstg m ρ c) ∗ outPts c f)

variable {m ρ} {K : Dev nD × Kx → ℕ}

set_option maxHeartbeats 1600000 in
/-- The script on device `c`. -/
theorem script_seg (c : Dev nD) (Wt : Waits sig Unit) (f : (cc0_stg3_0 : Ref sig .tc).ty.Contents (Elt F)) (Q : PUnit → sProp 𝕄) :
    iprop((ghost m ρ K c ∗ credits c ∗ wPts m ρ c) ∗ scratch c ∗ staged m ρ c f ∗ owes (c : Thread nD τ) (O₀ c) Wt)
      ⊢ iprop(((Φ₁ m ρ c ∗ staged m ρ c (outAt m ρ c) ∗ clear c) -∗ wp frame (wpE (defs₀ (F := F)) 𝒱₀ (c : Thread nD τ) none) Set.univ (Prog.ret ⟨⟩) Q)
        -∗ wp frame (wpE (defs₀ (F := F)) 𝒱₀ (c : Thread nD τ) none) Set.univ (script c) Q) := by
  unfold ghost linear credits staged script
  iintro ⟨⟨⟨#HR, ⟨HaB, HaS, HaV, HtB, HtS, HtV⟩, Hsf⟩, ⟨HcB, HcV⟩, Hw⟩, ⟨⟨%fy, Hy⟩, Hg, Hv⟩, ⟨Hx, Hsx, Hsw, Ho⟩, HO⟩ Hk
  -- the three first fetches
  ihave Hi := (idle_split m ρ c) $$ [Hw Hv Hsf]
  · isplitl [Hw]; · iexact Hw
    isplitl [Hv] <;> iassumption
  icases Hi with ⟨Hi0, Hi1, Hi2⟩
  iapply (fetch_seg (m := m) (ρ := ρ) (K := K) c 0 0 _ Q) $$ [Hi0]
  · isplitr; · iexact HR
    iexact Hi0
  iintro Hi0
  iapply (fetch_seg (m := m) (ρ := ρ) (K := K) c 1 1 _ Q) $$ [Hi1]
  · isplitr; · iexact HR
    iexact Hi1
  iintro Hi1
  iapply (fetch_seg (m := m) (ρ := ρ) (K := K) c 2 2 _ Q) $$ [Hi2]
  · isplitr; · iexact HR
    iexact Hi2
  iintro Hi2
  -- the send buffer filled
  iapply (copy_seg (m := m) (ρ := ρ) (K := K) c fy _ Q) $$ [Hx Hy]
  · isplitr; · iexact HR
    isplitl [Hx] <;> iassumption
  iintro ⟨Hx, Hy⟩
  ihave Hy' := ((Entails.of_eq (y_rows m ρ c)).trans (Entails.of_eq (bigSep_devs c (ySrc m ρ c)))) $$ Hy
  icases Hy' with ⟨Hyc, Hys⟩
  ihave Hg' := ((g_split c).trans (Entails.of_eq (bigSep_devs c (fun p => gFree c p)))) $$ Hg
  icases Hg' with ⟨Hgc, Hgs⟩
  -- the signals
  ihave HtB' := (Entails.of_eq (bigSep_devs c (fun p => dutyTok ER (barCell p) 0 c))) $$ HtB
  icases HtB' with ⟨-, HtB⟩
  iapply (signal_seg (m := m) (ρ := ρ) (K := K) c (oRecv c offs) Wt _ Q) $$ [Hgs HtB HO]
  · isplitr; · iexact HR
    isplitr [HO]
    · iapply (bigSepL_pair offs (fun r => gFree c (pr c r)) (fun r => dutyTok ER (barCell (pr c r)) 0 c)).2
      isplitl [Hgs] <;> iassumption
    · iexact HO
  iintro ⟨-, HO⟩
  rw [show oBar c [] = 0 from rfl, add_zero]
  -- the barrier
  iapply (barWait_seg (m := m) (ρ := ρ) (K := K) c Wt _ Q) $$ [HcB HaB HO]
  · isplitr; · iexact HR
    isplitl [HcB]; · iexact HcB
    isplitl [HaB] <;> iassumption
  iintro ⟨HzB, Hgp, HO⟩
  -- the remote copies
  ihave HtS' := (Entails.of_eq (bigSep_devs c (fun p => dutyTok ER (sendCell c p) 0 c))) $$ HtS
  icases HtS' with ⟨-, HtS⟩
  ihave HtV' := (Entails.of_eq (bigSep_devs c (fun p => dutyTok ER (recvCell p c) 0 c))) $$ HtV
  icases HtV' with ⟨-, HtV⟩
  iapply (send_seg (m := m) (ρ := ρ) (K := K) c _ _ Q) $$ [Hys Hgp HtS HtV HO]
  · isplitr; · iexact HR
    isplitr [HO]
    · iapply (bigSepL_pair offs (fun r => ySrc m ρ c (pr c r)) (fun r => iprop(gFree (pr c r) c ∗ dutyTok ER (sendCell c (pr c r)) 0 c ∗ dutyTok ER (recvCell (pr c r) c) 0 c))).2
      isplitl [Hys]; · iexact Hys
      iapply (bigSepL_pair offs (fun r => gFree (pr c r) c) (fun r => iprop(dutyTok ER (sendCell c (pr c r)) 0 c ∗ dutyTok ER (recvCell (pr c r) c) 0 c))).2
      isplitl [Hgp]; · iexact Hgp
      iapply (bigSepL_pair offs (fun r => dutyTok ER (sendCell c (pr c r)) 0 c) (fun r => dutyTok ER (recvCell (pr c r) c) 0 c)).2
      isplitl [HtS] <;> iassumption
    · iexact HO
  iintro ⟨HcS, HO⟩
  ihave HO' : clear c $$ [HO]
  · unfold clear; iexists _; iexact HO
  -- its own block
  iapply (own_seg (m := m) (ρ := ρ) (K := K) c _ Q) $$ [Hyc Hgc]
  · isplitr; · iexact HR
    isplitl [Hyc] <;> iassumption
  iintro ⟨Hyc, Hgc⟩
  -- the first product
  iapply (fetchWait_seg (m := m) (ρ := ρ) (K := K) c 0 0 _ Q) $$ [Hi0 HO']
  · isplitr; · iexact HR
    isplitl [Hi0] <;> iassumption
  iintro ⟨Hi0, HO⟩
  ihave Hgc := (Entails.of_eq (show (gGot m ρ c c : sProp 𝕄) = gGot m ρ c (peer c 0) from by rw [peer_zero])) $$ Hgc
  iapply (first_seg (m := m) (ρ := ρ) (K := K) c 0 f _ Q) $$ [Hgc Hi0 Ho]
  · isplitr; · iexact HR
    isplitr [Ho]
    · isplitl [Hgc] <;> iassumption
    · iexact Ho
  iintro ⟨⟨Hgc, Hi0⟩, Ho⟩
  iapply (fetch_seg (m := m) (ρ := ρ) (K := K) c 3 0 _ Q) $$ [Hi0]
  · isplitr; · iexact HR
    iapply (full_idle m ρ c 0 _) $$ Hi0
  iintro Hi0
  -- the later products
  ihave HaV' := (Entails.of_eq (bigSep_devs c (fun s => atPos ER (recvCell c s) 0 ∅ 0))) $$ HaV
  icases HaV' with ⟨HaVc, HaV⟩
  iapply (steps_seg (m := m) (ρ := ρ) (K := K) c _ Q) $$ [HcV HaV Hi0 Hi1 Hi2 Ho HO]
  · isplitr; · iexact HR
    isplitl [HcV HaV]
    · iapply (bigSepL_pair offs (fun r => cred (tallyAt (recvCell c (pr c r)) () N)) (fun r => atPos ER (recvCell c (pr c r)) 0 ∅ 0)).2
      isplitl [HcV] <;> iassumption
    · unfold stepSt slot
      rw [dif_pos (by decide), dif_pos (by decide), dif_pos (by decide)]
      isplitl [Hi1]; · iexact Hi1
      isplitl [Hi2]; · iexact Hi2
      isplitl [Hi0]; · iexact Hi0
      isplitl [Ho] <;> iassumption
  unfold stepSt slot
  rw [dif_neg (by decide), dif_neg (by decide), dif_neg (by decide)]
  iintro ⟨Hgz, Hi1, Hi2, Hi0, Ho, HO⟩
  ihave Hgz' := (bigSepL_pair offs (fun r => gGot m ρ c (pr c r)) (fun r => semVal (recvCell c (pr c r)) 0)).1 $$ Hgz
  icases Hgz' with ⟨Hgs, HzV⟩
  -- the sends' waits
  ihave HaS' := (Entails.of_eq (bigSep_devs c (fun s => atPos ER (sendCell c s) 0 ∅ 0))) $$ HaS
  icases HaS' with ⟨HaSc, HaS⟩
  iapply (sendWait_seg (m := m) (ρ := ρ) (K := K) c _ Q) $$ [HcS HaS HO]
  · isplitr; · iexact HR
    isplitr [HO]
    · iapply (bigSepL_pair offs (fun r => cred (tallyAt (sendCell c (pr c r)) () N)) (fun r => atPos ER (sendCell c (pr c r)) 0 ∅ 0)).2
      isplitl [HcS] <;> iassumption
    · iexact HO
  iintro ⟨Hyz, HO⟩
  ihave Hyz' := (bigSepL_pair offs (fun r => ySrc m ρ c (pr c r)) (fun r => semVal (sendCell c (pr c r)) 0)).1 $$ Hyz
  icases Hyz' with ⟨Hys, HzS⟩
  -- the scale and the activation
  iapply (finish_seg (m := m) (ρ := ρ) (K := K) c _ Q) $$ [Hsx Hsw Ho]
  · isplitr; · iexact HR
    isplitl [Hsx]; · iexact Hsx
    isplitl [Hsw] <;> iassumption
  iintro ⟨Hsx, Hsw, Ho⟩
  -- the two cells no transfer of its own names close
  imod (Rounds.cell_close ER (gatherRd m ρ) (Set.mem_univ (K (c, .inr (.inl c)))) (fun h => h) (R := 0) (fun r _ => duties_send_self m ρ c r)) $$ [HaSc] with HzSc
  · isplitr; · iapply (rec_inv m ρ K (c, .inr (.inl c))) $$ HR
    iexact HaSc
  imod (Rounds.cell_close ER (gatherRd m ρ) (Set.mem_univ (K (c, .inr (.inr c)))) (fun h => h) (R := 0) (fun r _ => duties_recv_self m ρ c r)) $$ [HaVc] with HzVc
  · isplitr; · iapply (rec_inv m ρ K (c, .inr (.inr c))) $$ HR
    iexact HaVc
  ihave Hid := (idle_join m ρ c) $$ [Hi0 Hi1 Hi2]
  · isplitl [Hi0]; · iexact Hi0
    isplitl [Hi1]; · iexact Hi1
    iexact Hi2
  icases Hid with ⟨Hw, Hv, Hsf⟩
  ihave Hgc := (Entails.of_eq (show (gGot m ρ c (peer c 0) : sProp 𝕄) = gGot m ρ c c from by rw [peer_zero])) $$ Hgc
  iapply Hk
  unfold Φ₁
  isplitr [Hx Hsx Hsw Ho HO]
  · isplitl [Hw]; · iexact Hw
    isplitl [Hyc Hys Hgc Hgs Hv]
    · isplitl [Hyc Hys]
      · iexists (y8 m ρ c)
        rw [y_rows, bigSep_devs c (ySrc m ρ c)]
        isplitl [Hyc] <;> iassumption
      isplitr [Hv]
      · ihave Hgc' := (gGot_free m ρ c c) $$ Hgc
        ihave Hgs' := (bigSepL_mono (l := offs) fun r _ => gGot_free m ρ c (pr c r)) $$ Hgs
        unfold gFree
        icases Hgc' with ⟨%fg, Hgc'⟩
        iapply ((Entails.of_eq (bigSep_devs c (fun p => gFree c p)).symm).trans (g_join c fg))
        unfold gFree
        isplitl [Hgc']; · iexists fg; iexact Hgc'
        iexact Hgs'
      · iexact Hv
    isplitl [HzB]; · iexact HzB
    isplitl [Hsf]; · iexact Hsf
    isplitl [HzSc HzS]
    · rw [bigSep_devs c (fun p => semVal (sendCell c p) 0)]
      isplitl [HzSc] <;> iassumption
    · rw [bigSep_devs c (fun p => semVal (recvCell c p) 0)]
      isplitl [HzVc] <;> iassumption
  isplitr [HO]
  · isplitl [Hx]; · iexact Hx
    isplitl [Hsx]; · iexact Hsx
    isplitl [Hsw] <;> iassumption
  · iexact HO

variable (m ρ)

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (sxstg m ρ c)
    ∗ stg c cc0_stg2_0 (swstg m ρ c) ∗ stg c cc0_stg3_0 (outAt m ρ c))

set_option maxHeartbeats 1600000 in
/-- The body, from `bodyPre` to `bodyPost`. -/
theorem sound_body (c : Dev nD) :
    bodyPre m ρ c ⊢ wp frame (wpE (defs₀ (F := F)) 𝒱₀ c none) Set.univ
      (cc0_body (F := F) xM (Memref.isWhole_whole _) wM (Memref.isWhole_whole _) sxM (Memref.isWhole_whole _) swM (Memref.isWhole_whole _)
        oM (Memref.isWhole_whole _) yM (Memref.isWhole_whole _) gM (Memref.isWhole_whole _) vM (Memref.isWhole_whole _) cc0_scratch3 cc0_scratch4 cc0_scratch5)
      (fun _ => bodyPost m ρ c) := by
  rw [body_eq, wp_deviceId]
  unfold bodyPre Φ₀
  iintro ⟨⟨⟨⟨%K, Hgh⟩, Hcw⟩, Hsc⟩, Ho, ⟨%d0, %g0, %hg0, Hx⟩, ⟨%d1, %g1, %hg1, Hsx⟩, ⟨%d2, %g2, %hg2, Hsw⟩, ⟨%d3, %g3, %hg3, Hout⟩⟩
  have hx : g0 = xstg m ρ c := by rw [hg0]; unfold Dat.before; rw [if_pos (by rw [fin_N t₀]; rfl)]; rfl
  have hsx : g1 = sxstg m ρ c := by rw [hg1]; unfold Dat.before; rw [if_pos (by rw [fin_N t₀]; rfl)]; rfl
  have hsw : g2 = swstg m ρ c := by rw [hg2]; unfold Dat.before; rw [if_pos (by rw [fin_N t₀]; rfl)]; rfl
  subst hx hsx hsw
  unfold Dat.owesAt Pipeline.owesWithin
  icases Ho with ⟨%Wt, %hW, HO⟩
  rw [show (dats m ρ 0 c).owed t₀.castSucc = O₀ c from rfl]
  iapply (script_seg (m := m) (ρ := ρ) (K := K) c Wt g3 (fun _ => bodyPost m ρ c)) $$ [Hgh Hcw Hsc Hx Hsx Hsw Hout HO]
  · isplitl [Hgh Hcw]
    · isplitl [Hgh] <;> iassumption
    isplitl [Hsc]; · iexact Hsc
    isplitr [HO]
    · unfold staged outPts
      isplitl [Hx]; · iexact Hx
      isplitl [Hsx]; · iexact Hsx
      isplitl [Hsw] <;> iassumption
    · iexact HO
  unfold staged outPts clear
  iintro ⟨HΦ, ⟨Hx, Hsx, Hsw, Hout⟩, ⟨%Wt', HO⟩⟩
  rw [wp_ret]; imodintro
  unfold bodyPost Dat.owesAt Pipeline.owesWithin
  rw [show (dats m ρ 0 c).owed t₀.succ = 0 from rfl]
  isplitl [HΦ]; · iexact HΦ
  isplitl [HO]
  · iexists Wt'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.Gather
-- ==== Proof.Launch.lean ====
/-
The launch: every semaphore of every device made an invariant, the tokens and the credit dealt, and the
run of the whole program from them.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the three of the fetches, a send and a receive one for every device. -/
abbrev osem : Fin 3 ⊕ (Dev nD ⊕ Dev nD) → SemLoc sig
  | .inl k => .dma (fsem k)
  | .inr (.inl p) => .dma (ssem p)
  | .inr (.inr s) => .dma (rsem s)

theorem ownSemFacts : Pipeline.OwnSemFacts cfg0.spec osem := by decide

/-- Every window is owned whole. -/
theorem share_eq (c : Dev nD) (w : Fin cfg0.W) : (dats m ρ 0 c).share w = fullShare := by unfold Dat.share; split <;> rfl

theorem csem_injective : Function.Injective csem := by decide

theorem kcell_injective : Function.Injective (kcell : Dev nD × Kx → GSem nD τ sig) := by
  rintro ⟨c, k⟩ ⟨c', k'⟩ h
  obtain rfl : c = c' := congrArg (fun g : GSem nD τ sig => g.1.1) h
  obtain rfl : k = k' := csem_injective (congrArg Prod.snd h)
  rfl

/-- The cells of the exchange. -/
def gCells : Finset (GSem nD τ sig) := Finset.univ.map ⟨kcell, kcell_injective⟩

/-- The tokens of device `c`'s cells: one per signaller at its barrier, one at every send and receive cell. -/
abbrev tokOf (ck : Dev nD × (Dev nD ⊕ (Dev nD ⊕ Dev nD))) : GSem nD τ sig × ℕ × Dev nD := match ck.2 with
  | .inl d => (barCell ck.1, 0, d)
  | .inr (.inl p) => (sendCell ck.1 p, 0, ck.1)
  | .inr (.inr s) => (recvCell ck.1 s, 0, s)

/-- A token without its device. -/
abbrev tokPart : Dev nD ⊕ (Dev nD ⊕ Dev nD) → SemLoc sig × Option (Dev nD)
  | .inl d => (.reg barS, some d)
  | .inr (.inl p) => (.dma (ssem p), none)
  | .inr (.inr s) => (.dma (rsem s), none)

theorem tokPart_injective : Function.Injective tokPart := by decide

theorem tokOf_injective : Function.Injective tokOf := by
  rintro ⟨c, j⟩ ⟨c', j'⟩ h
  have h1 : c = c' := by
    have := congrArg (fun x : GSem nD τ sig × ℕ × Dev nD => x.1.1.1) h
    rcases j with d | p | s <;> rcases j' with d' | p' | s' <;> exact this
  subst h1
  have h2 : tokPart j = tokPart j' := by
    have hs := congrArg (fun x : GSem nD τ sig × ℕ × Dev nD => x.1.2) h
    have hd := congrArg (fun x : GSem nD τ sig × ℕ × Dev nD => x.2.2) h
    rcases j with d | p | s <;> rcases j' with d' | p' | s' <;> dsimp only [tokOf] at hs hd <;>
      first
        | exact Prod.ext hs (congrArg some hd)
        | exact Prod.ext hs rfl
        | exact absurd hs (fun h => by cases h)
  obtain rfl : j = j' := tokPart_injective h2
  rfl

def gToks : Finset (GSem nD τ sig × ℕ × Dev nD) := Finset.univ.map ⟨tokOf, tokOf_injective⟩

/-- The ghost state at launch. -/
def u₀ : UU := (initOf (Pipeline.cells cfgs cellOf_inj) (Pipeline.launchToks cfgs cellOf_inj), (initOf gCells gToks, 1))

/-! ## The global step -/

/-- The tokens of device `c`'s own cells. -/
def toks (c : Dev nD) : sProp 𝕄 :=
  iprop((bigSep Finset.univ fun d => dutyTok ER (barCell c) 0 d) ∗ (bigSep Finset.univ fun p => dutyTok ER (sendCell c p) 0 c)
    ∗ (bigSep Finset.univ fun s => dutyTok ER (recvCell c s) 0 s))

/-- The tokens of the duties device `c` pays. -/
def payToks (c : Dev nD) : sProp 𝕄 :=
  iprop((bigSep Finset.univ fun p => dutyTok ER (barCell p) 0 c) ∗ (bigSep Finset.univ fun p => dutyTok ER (sendCell c p) 0 c)
    ∗ (bigSep Finset.univ fun p => dutyTok ER (recvCell p c) 0 c))

/-- What the launch element deals device `c`. -/
def G (c : Dev nD) : sProp 𝕄 :=
  iprop((bigSep Finset.univ fun k : Kx => roundState ER (gatherRd m ρ) (kcell (c, k)) 0)
    ∗ (bigSep Finset.univ fun k : Kx => iprop(atPos ER (kcell (c, k)) 0 ∅ 0 ∗ reached ER (kcell (c, k)) 0)) ∗ toks c)

/-- The counters of device `c`'s fetch semaphores. -/
def fvals (c : Dev nD) : sProp 𝕄 := bigSep Finset.univ fun k => semVal (fCell c k) 0

/-- What a device has once the levels of the launch are known. -/
def G' (c : Dev nD) : sProp 𝕄 :=
  iprop(∃ K : Dev nD × Kx → ℕ, ((bigSep Finset.univ fun ck : Dev nD × Kx => cellInv ER (gatherRd m ρ) (K ck) (kcell ck))
    ∗ bigSep Finset.univ fun ck : Dev nD × Kx => reached ER (kcell ck) 0) ∗ linear c ∗ fvals c)

omit [FloatOps F] in
/-- Over the cells of one device: the barrier's, the sends', the receives'. -/
theorem bigSep_Kx (Φ : Kx → sProp 𝕄) : bigSep Finset.univ Φ
    = iprop(Φ (.inl ()) ∗ (bigSep Finset.univ fun p => Φ (.inr (.inl p))) ∗ (bigSep Finset.univ fun s => Φ (.inr (.inr s)))) := by
  rw [bigSep_univ_sum, bigSep_univ_sum]
  congr 1
  exact bigSep_univ_eq_bigSepL [()] (by decide) (by decide) _

theorem fund_gather : BI.own (ER (initOf gCells gToks)) ⊢ (|==> bigSep Finset.univ (G m ρ) : sProp 𝕄) := by
  have hX (Φ : GSem nD τ sig → sProp 𝕄) : bigSep gCells Φ = bigSep Finset.univ fun c : Dev nD => bigSep Finset.univ fun k : Kx => Φ (kcell (c, k)) := by
    unfold gCells; rw [bigSep_map, bigSep_univ_prod]; rfl
  have hT : bigSep gToks (fun x => (dutyTok ER x.1 x.2.1 x.2.2 : sProp 𝕄)) = bigSep Finset.univ fun c : Dev nD => toks c := by
    unfold gToks; rw [bigSep_map, bigSep_univ_prod]
    exact bigSep_congr fun c _ => by unfold toks; rw [bigSep_univ_sum, bigSep_univ_sum]; rfl
  iintro HX
  imod (Rounds.fund ER (gatherRd m ρ) gCells gToks) $$ HX with ⟨Hst, Hr, Hat, Htok⟩
  imodintro
  ihave Hst' := (Entails.of_eq (hX fun g => roundState ER (gatherRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero: the fetches', the sends' and the receives'. -/
theorem ownSems0_eq (c : Dev nD) : (Pipeline.ownSems0 (Ix := Unit) (Name := ℕ) (U := UU) (Lvl := ℕ) (Val := Elt F) (τ := τ) osem c : sProp 𝕄)
    = iprop(fvals c ∗ (bigSep Finset.univ fun p => semVal (sendCell c p) 0) ∗ (bigSep Finset.univ fun s => semVal (recvCell c s) 0)) := by
  unfold Pipeline.ownSems0 fvals; rw [bigSep_univ_sum, bigSep_univ_sum]; rfl

omit [FloatOps F] in
/-- The barrier semaphore is the one semaphore no kernel owns. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c ∗ fvals c) := by
  have hv : iprop(semVal (barCell c) 0 ∗ (bigSep Finset.univ fun p => semVal (sendCell c p) 0) ∗ (bigSep Finset.univ fun s => semVal (recvCell c s) 0))
      ⊢ (bigSep Finset.univ fun k : Kx => semVal (kcell (c, k)) 0 : sProp 𝕄) := Entails.of_eq (bigSep_Kx (fun k : Kx => semVal (kcell (c, k)) 0)).symm
  rw [ownSems0_eq, unscopedSems0_eq]
  unfold G
  iintro ⟨⟨Hf, HS, HV⟩, HB, Hst, Hat, Htok⟩
  ihave Hv := hv $$ [HS HV HB]
  · isplitl [HB]; · iexact HB
    isplitl [HS] <;> iassumption
  imod (show iprop((bigSep Finset.univ fun k : Kx => semVal (kcell (c, k)) 0) ∗ bigSep Finset.univ fun k : Kx => roundState ER (gatherRd m ρ) (kcell (c, k)) 0)
      ⊢ (|={Set.univ}=> bigSep Finset.univ fun k => iprop(∃ κ : ℕ, cellInv ER (gatherRd m ρ) κ (kcell (c, k))) : sProp 𝕄) from by
        rw [← bigSep_sep']
        exact (bigSep_mono fun k _ => (Rounds.body_intro ER (gatherRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- Every token goes to the device that pays its duty. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    Pipeline.bigSep_univ_comm (fun c d : Dev nD => (dutyTok ER (barCell c) 0 d : sProp 𝕄)),
    Pipeline.bigSep_univ_comm (fun c s : Dev nD => (dutyTok ER (recvCell c s) 0 s : sProp 𝕄))]

omit [FloatOps F] in
/-- Positions and paying tokens are what a device holds of the exchange. -/
theorem linear_intro (c : Dev nD) : iprop((bigSep Finset.univ fun k : Kx => atPos ER (kcell (c, k)) 0 ∅ 0) ∗ payToks c) ⊢ (linear c : sProp 𝕄) := by
  rw [bigSep_Kx]
  unfold payToks linear
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

/-- The invariants and the reached rounds of all cells, in one. -/
def invsAt (K : Dev nD × Kx → ℕ) : sProp 𝕄 :=
  iprop((bigSep Finset.univ fun ck : Dev nD × Kx => cellInv ER (gatherRd m ρ) (K ck) (kcell ck))
    ∗ bigSep Finset.univ fun ck : Dev nD × Kx => reached ER (kcell ck) 0)

instance invsAt_persistent (K : Dev nD × Kx → ℕ) : BI.Persistent (invsAt m ρ K) := by unfold invsAt; infer_instance

theorem dealt_intro (K : Dev nD × Kx → ℕ) (c : Dev nD) :
    iprop(invsAt m ρ K ∗ ((bigSep Finset.univ fun k : Kx => atPos ER (kcell (c, k)) 0 ∅ 0) ∗ payToks c) ∗ fvals c) ⊢ G' m ρ c := by
  unfold G' invsAt
  iintro ⟨HR, HL, Hf⟩
  iexists K
  isplitl [HR]; · iexact HR
  isplitl [HL]
  · iapply (linear_intro c); iexact HL
  iexact Hf

theorem regroup :
    (bigSep Finset.univ fun c : Dev nD => iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c ∗ fvals c) : sProp 𝕄)
      ⊢ bigSep Finset.univ (G' m ρ) := by
  rw [bigSep_sep', bigSep_sep', bigSep_sep', ← bigSep_univ_prod (fun ck : Dev nD × Kx => iprop(∃ κ : ℕ, cellInv ER (gatherRd m ρ) κ (kcell ck))),
    bigSep_congr (s := Finset.univ) (fun (c : Dev nD) _ => bigSep_sep' Finset.univ (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄))]
  iintro ⟨HI, ⟨Hat, #HR⟩, Htok, Hf⟩
  ihave HK := (BI.bigSep_exists_pi Finset.univ (fun (ck : Dev nD × Kx) (κ : ℕ) => (cellInv ER (gatherRd m ρ) κ (kcell ck) : sProp 𝕄))) $$ HI
  icases HK with ⟨%K, #HI⟩
  ihave Htk := (toks_around (F := F)) $$ Htok
  iapply (bigSep_with_persistent (R := invsAt m ρ K) fun c _ => dealt_intro m ρ K c)
  isplitr
  · unfold invsAt; isplitl; · iexact HI
    iexact HR
  · rw [bigSep_sep', bigSep_sep']
    isplitr [Hf]
    · isplitl [Hat] <;> iassumption
    · iexact Hf

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem count_others (d c : Dev nD) : (offs.map fun r => if c = pr d r then 1 else 0).sum = if d = c then 0 else 1 := by
  revert d c; decide +kernel

theorem sum_others (d c : Dev nD) (n : ℕ) : (offs.map fun r => if c = pr d r then n else 0).sum = if d = c then 0 else n := by
  have h := count_others d c
  rw [show (fun r => if c = pr d r then n else 0) = fun r => (if c = pr d r then 1 else 0) * n from
    funext fun r => by split <;> simp, List.sum_map_mul_right, h]
  split <;> simp

theorem bar_eq_iff {a b : Dev nD} : barCell a = barCell b ↔ a = b :=
  ⟨fun h => congrArg (fun g : GSem nD τ sig => g.1.1) h, fun h => h ▸ rfl⟩
theorem rsem_inj {a b : Dev nD} (h : rsem a = rsem b) : a = b :=
  Fin.ext (by have := congrArg Fin.val h; simp only [rsem] at this; omega)
theorem recv_eq_iff {a b s t : Dev nD} : recvCell a s = recvCell b t ↔ a = b ∧ s = t :=
  ⟨fun h => ⟨congrArg (fun g : GSem nD τ sig => g.1.1) h,
    rsem_inj (SemLoc.dma.inj (congrArg (fun g : GSem nD τ sig => g.2) h))⟩, fun h => by rw [h.1, h.2]⟩
theorem recv_ne_bar {a b s : Dev nD} : recvCell a s ≠ barCell b := fun h => by
  have := congrArg (fun g : GSem nD τ sig => g.2) h; cases this

theorem oBar_apply (d : Dev nD) (l : List (Fin 15)) (g : GSem nD τ sig) : oBar d l g () = (l.map fun r => if g = barCell (pr d r) then 1 else 0).sum := by
  induction l with
  | nil => rfl
  | cons r l ih =>
    rw [oBar_cons, Pi.add_apply, Finsupp.add_apply, ih, tallyAt_apply, List.map_cons, List.sum_cons, add_comm]
    simp only [and_true]
theorem oRecv_apply (d : Dev nD) (l : List (Fin 15)) (g : GSem nD τ sig) : oRecv d l g () = (l.map fun r => if g = recvCell (pr d r) d then N else 0).sum := by
  induction l with
  | nil => rfl
  | cons r l ih =>
    rw [oRecv_cons, Pi.add_apply, Finsupp.add_apply, ih, tallyAt_apply, List.map_cons, List.sum_cons, add_comm]
    simp only [and_true]

/-- Device `d` owes every other device's barrier a unit. -/
theorem owed_bar (d c : Dev nD) : O₀ d (barCell c) () = if d = c then 0 else 1 := by
  unfold O₀
  rw [Pi.add_apply, Finsupp.add_apply, oRecv_apply, oBar_apply]
  simp only [recv_ne_bar.symm, if_false, bar_eq_iff]
  rw [sum_others]
  simp
/-- Device `d` owes the receive cell for `s` of device `c` a block if it is `s` and not `c`. -/
theorem owed_recv (d c s : Dev nD) : O₀ d (recvCell c s) () = if d = s then (if d = c then 0 else N) else 0 := by
  unfold O₀
  rw [Pi.add_apply, Finsupp.add_apply, oRecv_apply, oBar_apply]
  simp only [recv_ne_bar, if_false, recv_eq_iff]
  by_cases h : d = s
  · subst h; simp only [and_true]; rw [sum_others]; simp
  · simp [show ¬ s = d from fun h' => h h'.symm, h]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ s, if_pos (Finset.mem_univ _), if_neg h]

/-- The receive semaphores, one per device. -/
def recvSems : Dev nD ↪ SemLoc sig := ⟨fun s => .dma (rsem s), fun _ _ h => rsem_inj (SemLoc.dma.inj h)⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := (Finset.univ.erase c).map recvSems) ?_).trans ?_
  · intro x hx
    obtain ⟨s, -, rfl⟩ := Finset.mem_map.mp hx
    exact Finset.mem_erase.mpr ⟨fun h => (nomatch (show SemLoc.dma (rsem s) = SemLoc.reg barS from h)), Finset.mem_univ _⟩
  · rw [bigSep_map, ← bigSep_others c (fun s => cred (tallyAt (recvCell c s) () N))]
    exact bigSep_mono fun s hs => Entails.of_eq (congrArg cred (launch_recv c s (Finset.ne_of_mem_erase hs)))

/-! ## The launch's side conditions -/

/-- What the body starts from, besides the scratch buffers. -/
def start (c : Dev nD) : sProp 𝕄 := iprop((∃ K, ghost m ρ K c) ∗ credits c ∗ wPts m ρ c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' ghost records fvals
  iintro ⟨Hw, Hlev, Hcr, -, ⟨%K, ⟨HI, HR⟩, HL, Hf⟩⟩
  ihave Hc := (creds (F := F) c) $$ Hcr
  imodintro
  isplitl
  · isplitr [Hc Hw]
    · iexists K
      isplitl [HI HR Hlev]
      · isplitl [HI]; · iexact HI
        isplitl [HR]; · iexact HR
        iexact Hlev
      isplitl [HL]; · iexact HL
      iexact Hf
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start
  iintro ⟨Hs, -, Hr⟩
  isplitl [Hs]; · iexact Hs
  iexact Hr

/-- What the body leaves beside the semaphores and the scratch buffers. -/
def left (c : Dev nD) : sProp 𝕄 := iprop(unscopedSems0 c ∗ wPts m ρ c)

theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ left fvals
  rw [unscopedSems0_eq]
  iintro ⟨Hw, Hr, HzB, HzF, HzS, HzV⟩
  isplitl [HzB Hw]
  · isplitl [HzB] <;> iassumption
  isplitl [HzF HzS HzV]
  · isplitl [HzF]; · iexact HzF
    isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
/-- The launch element is the pipeline's part and the exchange's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

/-- Every window's array holds its computed contents, and the weight what it held. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- What the end of the run reads off what the body left: the unscoped semaphores at zero, the weight as it was. -/
theorem left_read (c : Dev nD) (s' : Phys nD τ sig (Elt F)) :
    iprop(left m ρ c ∗ emp ∗ SI s')
      ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') := by
  unfold left
  iintro ⟨⟨Hu, Hw⟩, -, HSI⟩
  icombine HSI Hw gives %hw
  imod (Pipeline.unscopedSems0_read (X := unscopedSems0 c) (c := c) fupd_intro s') $$ [Hu HSI] with ⟨%hu, HSI⟩
  · isplitl [Hu] <;> iassumption
  imodintro
  isplitr; · ipureintro; exact ⟨hu, funext fun i => hw i (Finset.mem_univ i)⟩
  iexact HSI

set_option maxRecDepth 8000 in
/-- From any memory with zero counters, for any float values: every weakly fair execution on the sixteen devices
    terminates, with every array at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := start m ρ) (Y := left m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := left_read m ρ)
    (hQ := fun _ h hs => ⟨fun c => ⟨fun w => (h c).1 w, (h c).2.2.2⟩, sem_eq_zero hs fun c => (h c).2.2.1⟩)

/-- An input array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Gather
-- ==== Proof.Frames.lean ====
/-
Of every run of the kernel: it ends with the argument arrays as they were and every semaphore at zero.
-/
module

public import proofs.«01_k».proof.Proof.Launch
public import proofs.«01_k».proof.Proof.Gen.Kernel
public import proofs.«01_k».proof.Defs

@[expose] public section

set_option maxRecDepth 65536

noncomputable section

namespace Cert.Gather

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The arguments are unchanged. -/
theorem kept {m ρ} {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 0).trans (finalA_in m ρ c 0 rfl), (h c).2, ((h c).1 1).trans (finalA_in m ρ c 1 rfl), ((h c).1 2).trans (finalA_in m ρ c 2 rfl)⟩

theorem frame_kernelIdeal : Cert.quiescent_KernelIdeal := fun m ρ _ =>
  (θ_run Cert.KernelIdeal.defs _ _).mono (fun _ h => ⟨kept h.1, h.2⟩) (run_main m ρ)

/-! ## The same text printed for the bits -/

theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := F) = Cert.KernelIdeal.defs (F := F) := by
  show Pipeline.defs _ Cert.Kernel.defs₀ = Pipeline.defs _ Cert.KernelIdeal.defs₀
  rw [defs₀_eq]

theorem main_eq : Cert.Kernel.main (F := F) = Cert.KernelIdeal.main (F := F) := rfl

theorem frame_kernel : Cert.quiescent_Kernel := fun m ρ _ => by
  have h := run_main (F := Bits) m ρ
  rw [← defs_eq, ← main_eq] at h
  exact (θ_run Cert.Kernel.defs _ _).mono (fun _ h => ⟨kept h.1, h.2⟩) h

end Cert.Gather
-- ==== Proof.Algebra.lean ====
/-
The two facts over the extended reals that the equation of kernel and reference rests on: a sum over 4096
taken in sixteen blocks, and the two spellings of `y` times its logistic function.
-/
module

public import Idealize.ShloMosaic.PureOps.Ideal
public import Mathlib.Logic.Equiv.Fin.Basic
public import Mathlib.Algebra.BigOperators.Fin

@[expose] public section

noncomputable section

namespace Cert.Gather

open Idealize.ShloMosaic
open scoped BigOperators

/-- Index `r` of block `p`. -/
def row (p : Fin 16) (r : Fin 256) : Fin 4096 := ⟨256 * p.val + r.val, by omega⟩

/-- A sum over 4096 indices is the sum over sixteen blocks of the sums over each. -/
theorem sum_blocks (g : Fin 4096 → EReal) :
    ∑ s : Fin 16, ∑ k : Fin 256, g (row s k) = ∑ K : Fin 4096, g K := by
  rw [← Fintype.sum_prod_type']
  refine Fintype.sum_equiv (finProdFinEquiv (m := 16) (n := 256)) _ _ fun p => congrArg g (Fin.ext ?_)
  show 256 * p.1.val + p.2.val = p.2.val + 256 * p.1.val
  exact Nat.add_comm _ _

/-- One entry of the result: row `a` against column `b`, scaled by `s * t`, over one plus the exponential of its negative. -/
def entry (a b : Fin 4096 → EReal) (s t : EReal) : EReal :=
  Ideal.div ((∑ k, a k * b k) * (s * t)) (1 + Ideal.exp (0 - (∑ k, a k * b k) * (s * t)))

/-- The denominator of the logistic function is not zero. -/
theorem one_add_exp_ne (y : EReal) : 1 + Ideal.exp y ≠ 0 := by
  have h : (0 : EReal) ≤ Ideal.exp y := by
    induction y using EReal.rec with
    | bot => rw [Ideal.exp_bot]
    | top => rw [Ideal.exp_top]; exact le_top
    | coe r => rw [Ideal.exp_coe]; exact_mod_cast (Real.exp_pos r).le
  exact ne_of_gt (lt_of_lt_of_le zero_lt_one (le_add_of_nonneg_right h))

/-- `y` over `1 + e⁻ʸ` is `y` times its logistic function, at the infinities too. -/
theorem div_eq_mul_logistic (y : EReal) : Ideal.div y (1 + Ideal.exp (0 - y)) = y * Ideal.logistic y := by
  rw [zero_sub, Ideal.logistic, Ideal.div, Ideal.div, if_neg (one_add_exp_ne _), if_neg (one_add_exp_ne _), one_mul]

end Cert.Gather
-- ==== Proof.KernelValue.lean ====
/-
What the kernel leaves in its result array on device `c`: at row `r` and column `l` the reference's entry of row
`256 c + r` and column `l`.
-/
module

public import proofs.«01_k».proof.Proof.Launch
public import proofs.«01_k».proof.Proof.Algebra
public import Idealize.ShloMosaic.Lib.MatmulPlain
public import Idealize.ShloMosaic.Lib.IdealHost
public import Idealize.ShloMosaic.Lib.Layout
public import Idealize.ShloMosaic.Lib.ValueIdx

@[expose] public section

noncomputable section

namespace Cert.Gather

open Cert.KernelIdeal Cert.KernelIdeal.Gen
open Idealize.ShloMosaic Idealize.ShloMosaic.TcCoe
open Idealize.ShloMosaic.ValueIdx
open Idealize.ShloMosaic.Pipeline (Dat)
open Idealize.SL Idealize.SL.Sem
open scoped BigOperators

section Any

variable {F : FTy → Type} [FloatOps F]
variable (m : (ℓ : Loc nD τ sig) → Buf (Elt F) ℓ) (ρ : Dev nD → PrngReg)

/-! ## The blocks, in the argument arrays -/

/-- A block of the size of its array, at the origin, is the array. -/
theorem xstg_eq (c : Dev nD) : xstg m ρ c = m ((c : Thread nD τ).loc main_arg0) :=
  Memref.read_access_unit_zero (Elt F) main_arg0 (funext fun _ => Nat.zero_mul _) _ _
theorem sxstg_eq (c : Dev nD) : sxstg m ρ c = m ((c : Thread nD τ).loc main_arg2) :=
  Memref.read_access_unit_zero (Elt F) main_arg2 (funext fun _ => Nat.zero_mul _) _ _
theorem swstg_eq (c : Dev nD) : swstg m ρ c = m ((c : Thread nD τ).loc main_arg3) :=
  Memref.read_access_unit_zero (Elt F) main_arg3 (funext fun _ => Nat.zero_mul _) _ _

theorem y8_eq (c : Dev nD) : y8 m ρ c = m ((c : Thread nD τ).loc main_arg0) := by
  unfold y8 k0_pay2
  dsimp only
  rw [shapeCast_self, shapeCast_self, xstg_eq]

/-- The block `s` sends to `p` is rows `256 p` on of `s`'s block of `x`. -/
theorem X_apply (s p : Dev nD) (r k : Fin 256) :
    X m ρ s p (ix2 r k) = m ((s : Thread nD τ).loc main_arg0) (ix2 (row p r) k) := by
  unfold X
  rw [y8_eq]
  show m ((s : Thread nD τ).loc main_arg0) ((yR p).idx (ix2 r k)) = _
  congr 1
  funext a
  apply Fin.ext
  match a with
  | ⟨0, _⟩ => show 256 * p.val + 1 * r.val = 256 * p.val + r.val; omega
  | ⟨1, _⟩ => show 0 + 1 * k.val = k.val; omega

/-- The weights at `p`'s rows are rows `256 p` on. -/
theorem W_apply (c p : Dev nD) (k : Fin 256) (l : Fin 8192) :
    W m ρ c p (ix2 k l) = m ((c : Thread nD τ).loc main_arg1) (ix2 (row p k) l) := by
  unfold W
  show m ((c : Thread nD τ).loc main_arg1) ((wR p).idx (ix2 k l)) = _
  congr 1
  funext a
  apply Fin.ext
  match a with
  | ⟨0, _⟩ => show 256 * p.val + 1 * k.val = 256 * p.val + k.val; omega
  | ⟨1, _⟩ => show 0 + 1 * l.val = l.val; omega

/-! ## The result array -/

theorem flushed_eq (c : Dev nD) (t : Fin cfg0.N) (_ : (cfg0.win 3).flush t = true) :
    (dats m ρ 0 c).flushed 3 t = ((cfg0.win 3).blk t).view.read (Elt F) (outAt m ρ c) :=
  (Memref.read_access_unit_zero (Elt F) main_v1 (funext fun _ => Nat.zero_mul _) _ (outAt m ρ c)).symm

theorem cover (i : S256x8192.Idx) : ∃ t : Fin cfg0.N, (cfg0.win 3).flush t = true ∧ i ∈ ((cfg0.win 3).blk t).view.set := by
  refine ⟨t₀, flush0_3 _, ?_⟩
  show i ∈ ((View.whole main_v1).slice (win0_3.rect t₀)).set
  rw [View.set_slice_whole, Rect.mem_set_unit]
  intro a
  exact ⟨by show 0 * _ ≤ _; omega, by show (i a : Nat) < 0 * _ + S256x8192.size a; have := (i a).isLt; omega⟩

/-- The result array ends holding the finished expression. -/
theorem finalA_out (c : Dev nD) : finalA m ρ c 3 = outAt m ρ c :=
  (dats m ρ 0 c).arrAt_eq_of_cover 3 (outAt m ρ c) (flushed_eq m ρ c) cover

end Any

/-! ## Under the ideal numbers -/

variable (m : (ℓ : Loc nD τ sig) → Buf (Elt Ideal) ℓ) (ρ : Dev nD → PrngReg)

theorem mul_apply (a : FVec Ideal S256x256 .fp8e4m3) (w : FVec Ideal S256x8192 .fp8e4m3) (r : Fin 256) (l : Fin 8192) :
    mul a w (ix2 r l) = ∑ k : Fin 256, (a (ix2 r k) : EReal) * w (ix2 k l) :=
  (Ideal.matmul_plain_apply (M := 256) (K := 256) (N := 8192) none a w _ r l).trans
    ((congrArg (· + _) Ideal.ofBits_zero_f32).trans (zero_add _))

/-- The running sum after `n + 1` products. -/
theorem acc_apply (c : Dev nD) (r : Fin 256) (l : Fin 8192) (n : ℕ) :
    acc m ρ c n (ix2 r l) = ∑ i ∈ Finset.range (n + 1), (part m ρ c i (ix2 r l) : EReal) := by
  induction n with
  | zero => rw [Finset.sum_range_one]; rfl
  | succ n ih => rw [Finset.sum_range_succ, ← ih]; rfl

/-- Going once around the ring from `c` meets every device. -/
theorem peer_bijective (c : Dev nD) : Function.Bijective (peer c) := by
  refine (Finite.injective_iff_bijective).mp fun a b h => Fin.ext ?_
  have h' : (c.val + a.val) % 16 = (c.val + b.val) % 16 := congrArg Fin.val h
  have := a.isLt; have := b.isLt
  omega

/-- Of all sixteen products: the whole row against the whole column. -/
theorem acc_all (c : Dev nD) (x' : (⟨2, ![4096, 4096]⟩ : Shape).Idx → EReal) (w' : (⟨2, ![4096, 8192]⟩ : Shape).Idx → EReal)
    (hx : ∀ s : Dev nD, m ((s : Thread nD τ).loc main_arg0) = Layout.block ⟨2, ![4096, 256]⟩ ⟨2, ![4096, 4096]⟩ 1 16 s x')
    (hw : m ((c : Thread nD τ).loc main_arg1) = w') (r : Fin 256) (l : Fin 8192) :
    acc m ρ c 15 (ix2 r l)
      = ∑ K : Fin 4096, x' (ix2 (row c r) K) * w' (ix2 K l) := by
  have hpart : ∀ n : Fin 16, (part m ρ c n.val (ix2 r l) : EReal)
      = (fun s : Fin 16 => ∑ k : Fin 256, x' (ix2 (row c r) (row s k))
          * w' (ix2 (row s k) l)) (peer c n) := by
    intro n
    unfold part
    rw [show (⟨n.val % 16, Nat.mod_lt _ (by decide)⟩ : Fin 16) = n from Fin.ext (Nat.mod_eq_of_lt n.isLt), mul_apply]
    refine Finset.sum_congr rfl fun k _ => ?_
    rw [X_apply, W_apply, hx, hw, Layout.block_apply]
    refine congrArg (fun j => x' j * w' (ix2 (row (peer c n) k) l)) (funext fun a => Fin.ext ?_)
    match a with
    | ⟨0, _⟩ => rfl
    | ⟨1, _⟩ =>
      refine (Layout.idx_cols_val (dS := ![4096, 256]) (dT := ![4096, 4096]) (k := 16) (by decide) (peer c n) (ix2 (row c r) k)).2.trans ?_
      show (peer c n).val * 256 + k.val = 256 * (peer c n).val + k.val
      rw [Nat.mul_comm]
  rw [acc_apply, Finset.sum_range, ← sum_blocks (fun K => x' (ix2 (row c r) K) * w' (ix2 K l)),
    ← (peer_bijective c).sum_comp (fun s : Fin 16 => ∑ k : Fin 256, x' (ix2 (row c r) (row s k)) * w' (ix2 (row s k) l))]
  exact Finset.sum_congr rfl fun n _ => hpart n

/-- The finished expression, at row `r` and column `l`. -/
theorem outAt_apply (c : Dev nD) (x' : (⟨2, ![4096, 4096]⟩ : Shape).Idx → EReal) (w' : (⟨2, ![4096, 8192]⟩ : Shape).Idx → EReal)
    (hx : ∀ s : Dev nD, m ((s : Thread nD τ).loc main_arg0) = Layout.block ⟨2, ![4096, 256]⟩ ⟨2, ![4096, 4096]⟩ 1 16 s x')
    (hw : m ((c : Thread nD τ).loc main_arg1) = w') (r : Fin 256) (l : Fin 8192) :
    outAt m ρ c (ix2 r l)
      = entry (fun K => x' (ix2 (row c r) K)) (fun K => w' (ix2 K l))
          (m ((c : Thread nD τ).loc main_arg2) s1) (m ((c : Thread nD τ).loc main_arg3) s1) := by
  unfold entry
  rw [div_eq_mul_logistic, ← acc_all m ρ c x' w' hx hw r l, ← sxstg_eq m ρ c, ← swstg_eq m ρ c]
  unfold outAt k0_pay1
  rw [shapeCast_self]
  rfl

end Cert.Gather
-- ==== Proof.RefValue.lean ====
/-
What the reference leaves in its result array: at row `r` and column `l`, the scaled product of row `r` of `x`
and column `l` of the weights, over one plus the exponential of its negative.
-/
module

public import proofs.«01_k».proof.Proof.Gen.ReferenceIdeal.Value
public import proofs.«01_k».proof.Proof.Algebra
public import Idealize.ShloMosaic.Lib.MatmulPlain
public import Idealize.ShloMosaic.Lib.IdealHost
public import Idealize.ShloMosaic.Lib.ValueIdx
public import Idealize.ShloMosaic.Lib.Tactic

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)
open Idealize.ShloMosaic.ValueIdx
open scoped BigOperators

section Any

variable {F : FTy → Type} [FloatOps F]
variable (m : (ℓ : Loc nD τ sig) → Buf (Elt F) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The one index of a scalar's array. -/
def i1 : S1.Idx := fun a => ⟨0, by fin_cases a; decide⟩
theorem eq_i1 (i : S1.Idx) : i = i1 := by
  funext a; fin_cases a
  exact Fin.ext (Nat.lt_one_iff.mp (i 0).isLt)

/-- The body leaves its one expression of the whole arrays. -/
theorem out_eq (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e4m3) (w : Vec F S4096x8192 .fp8e4m3) (sx sw : Vec F S1 .f32) :
    out0_A_4 c a0 h0 a1 h1 a2 h2 a3 h3 a4 h4 x w sx sw = k0_pay1 x w (sx i1) (sw i1) := by
  unfold out0_A_4
  rw [View.read_writes_eq_canon _ _ _ (cover0_A_4 c a0 h0 a1 h1 a2 h2 a3 h3 a4 h4 x w sx sw)]
  unfold kernelRun0_A
  dsimp only
  rw [View.canon_unit_zero zeros2]
  simp only [View.readAt_eq_ld, h0.read_unread, h1.read_unread, h2.read_unread, h3.read_unread, View.ld_unit_zero (S := S4096x4096) zeros2,
    View.ld_unit_zero (S := S4096x8192) zeros2]
  sl_unfold_words
  refine congr (congrArg (k0_pay1 x w) ?_) ?_
  · rw [View.readAt_eq_ld, h2.read_unread]
    exact congrArg sx (eq_i1 _)
  · rw [View.readAt_eq_ld, h3.read_unread]
    exact congrArg sw (eq_i1 _)

/-- The body's expression of the argument arrays of `c`, whole. -/
def result (c : Dev nD) : Buf (Elt F) ((c : Thread nD τ).loc main_v0) :=
  k0_pay1 (m ((c : Thread nD τ).loc main_arg0)) (m ((c : Thread nD τ).loc main_arg1)) (m ((c : Thread nD τ).loc main_arg2) i1)
    (m ((c : Thread nD τ).loc main_arg3) i1)

/-- A block of the size of its array, at the origin, is the array. -/
theorem iblk0 (c : Dev nD) (t : Fin cfg0.N) : iblk m c 0 t = m ((c : Thread nD τ).loc main_arg0) :=
  Memref.read_access_unit_zero (Elt F) main_arg0 (funext fun _ => Nat.zero_mul _) _ _
theorem iblk1 (c : Dev nD) (t : Fin cfg0.N) : iblk m c 1 t = m ((c : Thread nD τ).loc main_arg1) :=
  Memref.read_access_unit_zero (Elt F) main_arg1 (funext fun _ => Nat.zero_mul _) _ _
theorem iblk2 (c : Dev nD) (t : Fin cfg0.N) : iblk m c 2 t = m ((c : Thread nD τ).loc main_arg2) :=
  Memref.read_access_unit_zero (Elt F) main_arg2 (funext fun _ => Nat.zero_mul _) _ _
theorem iblk3 (c : Dev nD) (t : Fin cfg0.N) : iblk m c 3 t = m ((c : Thread nD τ).loc main_arg3) :=
  Memref.read_access_unit_zero (Elt F) main_arg3 (funext fun _ => Nat.zero_mul _) _ _

theorem flushed_eq (c : Dev nD) (t : Fin cfg0.N) (_ : (cfg0.win 4).flush t = true) :
    (dats m 0 c).flushed 4 t = ((cfg0.win 4).blk t).view.read (Elt F) (result m c) := by
  rw [flushed4_A, out_eq, iblk0, iblk1, iblk2, iblk3]
  exact (Memref.read_access_unit_zero (Elt F) main_v0 (funext fun _ => Nat.zero_mul _) _ (result m c)).symm

theorem cover (i : S4096x8192.Idx) : ∃ t : Fin cfg0.N, (cfg0.win 4).flush t = true ∧ i ∈ ((cfg0.win 4).blk t).view.set := by
  refine ⟨t0_0, (flush0_4 _), ?_⟩
  show i ∈ ((View.whole main_v0).slice (win0_4.rect t0_0)).set
  rw [View.set_slice_whole, Rect.mem_set_unit]
  intro a
  exact ⟨by show 0 * _ ≤ _; omega, by show (i a : Nat) < 0 * _ + S4096x8192.size a; have := (i a).isLt; omega⟩

/-- The result array ends holding that expression. -/
theorem final_eq (c : Dev nD) : (dats m 0 c).arrAt 4 cfg0.N = result m c :=
  (dats m 0 c).arrAt_eq_of_cover 4 (result m c) (flushed_eq m c) cover

end Any

/-- Under the ideal numbers the body's expression at row `r` and column `l`. -/
theorem k0_pay1_apply (x : FVec Ideal S4096x4096 .fp8e4m3) (w : FVec Ideal S4096x8192 .fp8e4m3) (sx sw : Ideal .f32) (r : Fin 4096) (l : Fin 8192) :
    (k0_pay1 (F := Ideal) x w sx sw (ix2 r l) : EReal) = Cert.Gather.entry (fun k => x (ix2 r k)) (fun k => w (ix2 k l)) sx sw := by
  have hdot : FloatOps.matmul dot_S4096x4096_S4096x8192_S4096x8192_1_0_0_1_n_n none (extf .f32 x bitsLt_fp8e4m3_f32) (extf .f32 w bitsLt_fp8e4m3_f32)
      (constant (F := Ideal) S4096x8192 .f32 0x00000000#32) (ix2 r l) = ∑ k : Fin 4096, (x (ix2 r k) : EReal) * w (ix2 k l) :=
    (Ideal.matmul_plain_apply (M := 4096) (K := 4096) (N := 8192) none _ _ _ r l).trans
      ((congrArg (· + _) Ideal.ofBits_zero_f32).trans (zero_add _))
  show Ideal.div (FloatOps.matmul dot_S4096x4096_S4096x8192_S4096x8192_1_0_0_1_n_n none (extf .f32 x bitsLt_fp8e4m3_f32) (extf .f32 w bitsLt_fp8e4m3_f32)
      (constant (F := Ideal) S4096x8192 .f32 0x00000000#32) (ix2 r l) * (sx * sw))
    (Ideal.ofBits .f32 0x3F800000#32 + Ideal.exp (Ideal.ofBits .f32 0x00000000#32 - FloatOps.matmul dot_S4096x4096_S4096x8192_S4096x8192_1_0_0_1_n_n none
      (extf .f32 x bitsLt_fp8e4m3_f32) (extf .f32 w bitsLt_fp8e4m3_f32) (constant (F := Ideal) S4096x8192 .f32 0x00000000#32) (ix2 r l) * (sx * sw))) = _
  rw [hdot, Ideal.ofBits_zero_f32, Ideal.ofBits_one_f32]
  rfl

end Cert.ReferenceIdeal.Value
-- ==== Proof.Equal.lean ====
/-
The kernel's result is the reference's, block by block.
-/
module

public import proofs.«01_k».proof.Proof.Frames
public import proofs.«01_k».proof.Proof.KernelValue
public import proofs.«01_k».proof.Proof.RefValue

@[expose] public section

noncomputable section

namespace Cert.Gather

open Idealize.ShloMosaic Idealize.ShloMosaic.TcCoe
open Idealize.ShloMosaic.ValueIdx
open Idealize.SL Idealize.SL.Sem

/-- Device `c`'s result is block `c` of the rows of the reference's. -/
theorem outAt_eq_block (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (d : Dev Cert.ReferenceIdeal.nD)
    (h0 : ∀ c : Dev Cert.KernelIdeal.nD, m ((c.tc : Thread _ Cert.KernelIdeal.τ).loc Cert.KernelIdeal.main_arg0)
      = Layout.block ⟨2, ![4096, 256]⟩ ⟨2, ![4096, 4096]⟩ 1 16 c (m' ((d.tc : Thread _ Cert.ReferenceIdeal.τ).loc Cert.ReferenceIdeal.main_arg0)))
    (c : Dev Cert.KernelIdeal.nD)
    (h1 : m ((c.tc : Thread _ Cert.KernelIdeal.τ).loc Cert.KernelIdeal.main_arg1) = m' ((d.tc : Thread _ Cert.ReferenceIdeal.τ).loc Cert.ReferenceIdeal.main_arg1))
    (h2 : m ((c.tc : Thread _ Cert.KernelIdeal.τ).loc Cert.KernelIdeal.main_arg2) = m' ((d.tc : Thread _ Cert.ReferenceIdeal.τ).loc Cert.ReferenceIdeal.main_arg2))
    (h3 : m ((c.tc : Thread _ Cert.KernelIdeal.τ).loc Cert.KernelIdeal.main_arg3) = m' ((d.tc : Thread _ Cert.ReferenceIdeal.τ).loc Cert.ReferenceIdeal.main_arg3)) :
    outAt m ρ c = Layout.block ⟨2, ![256, 8192]⟩ ⟨2, ![4096, 8192]⟩ 0 16 c (Cert.ReferenceIdeal.Value.result m' d) := by
  have key : ∀ (r : Fin 256) (l : Fin 8192), outAt m ρ c (ix2 r l)
      = Layout.block ⟨2, ![256, 8192]⟩ ⟨2, ![4096, 8192]⟩ 0 16 c (Cert.ReferenceIdeal.Value.result m' d) (by decide) (ix2 r l) := by
    intro r l
    have hi : (show Layout.Tiles ⟨2, ![256, 8192]⟩ ⟨2, ![4096, 8192]⟩ 0 16 by decide).idx c (ix2 r l) = ix2 (row c r) l := by
      funext a
      apply Fin.ext
      match a with
      | ⟨0, _⟩ =>
        refine (Layout.idx_rows_val (dS := ![256, 8192]) (dT := ![4096, 8192]) (k := 16) (by decide) c (ix2 r l)).1.trans ?_
        show c.val * 256 + r.val = 256 * c.val + r.val
        rw [Nat.mul_comm]
      | ⟨1, _⟩ => rfl
    rw [Layout.block_apply, hi]
    refine (outAt_apply m ρ c _ _ h0 h1 r l).trans ?_
    rw [h2, h3]
    exact (Cert.ReferenceIdeal.Value.k0_pay1_apply _ _ _ _ (row c r) l).symm
  funext i
  rw [eq_ix2 i]
  exact key (i 0) (i 1)

theorem algebraic : Cert.algebraic_KernelIdeal_ReferenceIdeal := by
  intro m ρ m' ρ' _ h
  refine ⟨Cert.ReferenceIdeal.Value.result m' 0, ?_, ?_⟩
  · refine (θ_run Cert.KernelIdeal.defs _ _).mono (fun r hr c => ⟨?_, kept hr.1 c⟩) (run_main m ρ)
    exact ((hr.1 c).1 3).trans ((finalA_out m ρ c).trans
      (outAt_eq_block m ρ m' 0 (fun c => (h c).1) c (h c).2.1 (h c).2.2.1 (h c).2.2.2))
  · refine (θ_run Cert.ReferenceIdeal.defs _ _).mono (fun r hr => ?_) (Cert.ReferenceIdeal.Value.run_blocks m' ρ')
    exact ⟨(hr 0).1.trans (Cert.ReferenceIdeal.Value.final_eq m' 0), (hr 0).2⟩

end Cert.Gather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_kernelIdeal, fun m ρ _ => Cert.ReferenceIdeal.Gen.frame m ρ, trivial, Cert.Gather.algebraic⟩

end Cert.Proof

end
